-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_window_indices [hPre_window_indices : Cert.Pre_window_indices.Facts] (m : (ℓ : Loc Cert.KernelIdeal.nD Cert.KernelIdeal.τ Cert.KernelIdeal.sig) → Buf (Elt Ideal) ℓ) : Prop :=
  ∀ c : Dev Cert.KernelIdeal.nD,
    (Cert.Pre_window_indices.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_window_indices [hPre_window_indices : Cert.Pre_window_indices.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_window_indices.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_window_indices [hKernelIdeal : Cert.KernelIdeal.Facts] [hPre_window_indices : Cert.Pre_window_indices.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_window_indices m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_window_indices [hReferenceIdeal : Cert.ReferenceIdeal.Facts] [hPre_window_indices : Cert.Pre_window_indices.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_window_indices m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_window_indices [hKernelIdeal : Cert.KernelIdeal.Facts] [hReferenceIdeal : Cert.ReferenceIdeal.Facts] [hPre_window_indices : Cert.Pre_window_indices.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_window_indices m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_window_indices : Cert.Pre_window_indices.Facts),
    quiescent_Kernel (hKernel := hKernel)
    ∧ quiescent_KernelIdeal (hKernelIdeal := hKernelIdeal)
    ∧ quiescent_KernelIdeal_pre_window_indices (hKernelIdeal := hKernelIdeal) (hPre_window_indices := hPre_window_indices)
    ∧ quiescent_ReferenceIdeal (hReferenceIdeal := hReferenceIdeal)
    ∧ quiescent_ReferenceIdeal_pre_window_indices (hReferenceIdeal := hReferenceIdeal) (hPre_window_indices := hPre_window_indices)
    ∧ preserves_Kernel_KernelIdeal
    ∧ algebraic_KernelIdeal_ReferenceIdeal_pre_window_indices (hKernelIdeal := hKernelIdeal) (hReferenceIdeal := hReferenceIdeal) (hPre_window_indices := hPre_window_indices)
-- ==== Pre_window_indices.lean ====
abbrev S64x64x32x32 : Shape := ⟨4, ![64, 64, 32, 32]⟩
abbrev S64x64x3x3 : Shape := ⟨4, ![64, 64, 3, 3]⟩
abbrev S32x32x9 : Shape := ⟨3, ![32, 32, 9]⟩
abbrev S_ : Shape := ⟨0, ![]⟩

class Facts : Prop where
  bcast_S_S32x32x9 : S_.BroadcastsInDim S32x32x9 (![] : Fin 0 → Fin S32x32x9.rank)

variable [Facts]

def fn_part1 {F : FTy → Type} [FloatOps F] (main_v1 : IVec S32x32x9 32) (main_v5 : IVec S32x32x9 32) (main_v14 : IVec S32x32x9 1) (main_v17 : IVec S32x32x9 1) : IVec S32x32x9 1 :=
  let main_v18 : IVec S32x32x9 1 := andi main_v14 main_v17
  let main_v19 : IVec S32x32x9 32 := subi main_v5 main_v1
  let main_c_5 : IVec S_ 32 := constantI S_ 32 4#32
  let main_v20 : IVec S32x32x9 32 := broadcastInDim S32x32x9 ![] bcast_S_S32x32x9 main_c_5
  let main_v21 : IVec S32x32x9 1 := cmpi .sle main_v19 main_v20
  let main_v22 : IVec S32x32x9 1 := andi main_v18 main_v21
  let main_v23 : IVec S32x32x9 32 := subi main_v1 main_v5
  let main_c_6 : IVec S_ 32 := constantI S_ 32 4#32
  let main_v24 : IVec S32x32x9 32 := broadcastInDim S32x32x9 ![] bcast_S_S32x32x9 main_c_6
  let main_v25 : IVec S32x32x9 1 := cmpi .sle main_v23 main_v24
  let main_v26 : IVec S32x32x9 1 := andi main_v22 main_v25
  main_v26

def fn {F : FTy → Type} [FloatOps F] (main_arg0 : FVec F S64x64x32x32 .f32) (main_arg1 : FVec F S64x64x3x3 .f32) (main_arg2 : IVec S32x32x9 32) : IVec S32x32x9 1 :=
  let main_v0 : IVec S32x32x9 32 := iotaInDim S32x32x9 32 0
  let main_v1 : IVec S32x32x9 32 := iotaInDim S32x32x9 32 1
  let main_c : IVec S_ 32 := constantI S_ 32 5#32
  let main_v2 : IVec S32x32x9 32 := broadcastInDim S32x32x9 ![] bcast_S_S32x32x9 main_c
  let main_v3 : IVec S32x32x9 32 := Host.shrui main_arg2 main_v2
  let main_c_0 : IVec S_ 32 := constantI S_ 32 31#32
  let main_v4 : IVec S32x32x9 32 := broadcastInDim S32x32x9 ![] bcast_S_S32x32x9 main_c_0
  let main_v5 : IVec S32x32x9 32 := andi main_arg2 main_v4
  let main_c_1 : IVec S_ 32 := constantI S_ 32 0#32
  let main_v6 : IVec S32x32x9 32 := broadcastInDim S32x32x9 ![] bcast_S_S32x32x9 main_c_1
  let main_v7 : IVec S32x32x9 1 := cmpi .sge main_arg2 main_v6
  let main_c_2 : IVec S_ 32 := constantI S_ 32 1024#32
  let main_v8 : IVec S32x32x9 32 := broadcastInDim S32x32x9 ![] bcast_S_S32x32x9 main_c_2
  let main_v9 : IVec S32x32x9 1 := cmpi .slt main_arg2 main_v8
  let main_v10 : IVec S32x32x9 1 := andi main_v7 main_v9
  let main_v11 : IVec S32x32x9 32 := subi main_v3 main_v0
  let main_c_3 : IVec S_ 32 := constantI S_ 32 4#32
  let main_v12 : IVec S32x32x9 32 := broadcastInDim S32x32x9 ![] bcast_S_S32x32x9 main_c_3
  let main_v13 : IVec S32x32x9 1 := cmpi .sle main_v11 main_v12
  let main_v14 : IVec S32x32x9 1 := andi main_v10 main_v13
  let main_v15 : IVec S32x32x9 32 := subi main_v0 main_v3
  let main_c_4 : IVec S_ 32 := constantI S_ 32 4#32
  let main_v16 : IVec S32x32x9 32 := broadcastInDim S32x32x9 ![] bcast_S_S32x32x9 main_c_4
  let main_v17 : IVec S32x32x9 1 := cmpi .sle main_v15 main_v16
  fn_part1 (F := F) main_v1 main_v5 main_v14 main_v17
-- ==== Kernel.lean ====
abbrev S64x64x32x32 : Shape := ⟨4, ![64, 64, 32, 32]⟩
abbrev S64x64x3x3 : Shape := ⟨4, ![64, 64, 3, 3]⟩
abbrev S32x32x9 : Shape := ⟨3, ![32, 32, 9]⟩
abbrev S64x64x9 : Shape := ⟨3, ![64, 64, 9]⟩
abbrev S64x9x64 : Shape := ⟨3, ![64, 9, 64]⟩
abbrev S64x576 : Shape := ⟨2, ![64, 576]⟩
abbrev S1024x9 : Shape := ⟨2, ![1024, 9]⟩
abbrev S240x9 : Shape := ⟨2, ![240, 9]⟩
abbrev S9x240 : Shape := ⟨2, ![9, 240]⟩
abbrev S_ : Shape := ⟨0, ![]⟩
abbrev S9x256 : Shape := ⟨2, ![9, 256]⟩
abbrev S2304 : Shape := ⟨1, ![2304]⟩
abbrev S64x9 : Shape := ⟨2, ![64, 9]⟩
abbrev S9x64 : Shape := ⟨2, ![9, 64]⟩
abbrev S9x128 : Shape := ⟨2, ![9, 128]⟩
abbrev S1152 : Shape := ⟨1, ![1152]⟩
abbrev S1x2304 : Shape := ⟨2, ![1, 2304]⟩
abbrev S5x2304 : Shape := ⟨2, ![5, 2304]⟩
abbrev S5x1x2304 : Shape := ⟨3, ![5, 1, 2304]⟩
abbrev S64x64x1024 : Shape := ⟨3, ![64, 64, 1024]⟩
abbrev S16x64x1024 : Shape := ⟨3, ![16, 64, 1024]⟩
abbrev S5x512x2304 : Shape := ⟨3, ![5, 512, 2304]⟩
abbrev S1024x1024 : Shape := ⟨2, ![1024, 1024]⟩
abbrev S2x1024x2304 : Shape := ⟨3, ![2, 1024, 2304]⟩
abbrev S576x4096 : Shape := ⟨2, ![576, 4096]⟩
abbrev S512x2304 : Shape := ⟨2, ![512, 2304]⟩
abbrev S1x1x2304 : Shape := ⟨3, ![1, 1, 2304]⟩
abbrev S1x512x2304 : Shape := ⟨3, ![1, 512, 2304]⟩
abbrev S1024x512 : Shape := ⟨2, ![1024, 512]⟩
abbrev S1024x2304 : Shape := ⟨2, ![1024, 2304]⟩
abbrev S1x1024x2304 : Shape := ⟨3, ![1, 1024, 2304]⟩
abbrev S1x64x256 : Shape := ⟨3, ![1, 64, 256]⟩
abbrev S64x256 : Shape := ⟨2, ![64, 256]⟩
abbrev S64x4096 : Shape := ⟨2, ![64, 4096]⟩
abbrev S64x240 : Shape := ⟨2, ![64, 240]⟩
abbrev S1x64x240 : Shape := ⟨3, ![1, 64, 240]⟩
abbrev S1x512x1152 : Shape := ⟨3, ![1, 512, 1152]⟩
abbrev S512x1152 : Shape := ⟨2, ![512, 1152]⟩
abbrev S1024x1152 : Shape := ⟨2, ![1024, 1152]⟩
abbrev S1x1024x1152 : Shape := ⟨3, ![1, 1024, 1152]⟩
abbrev S1x64x128 : Shape := ⟨3, ![1, 64, 128]⟩
abbrev S64x128 : Shape := ⟨2, ![64, 128]⟩
abbrev S576x2048 : Shape := ⟨2, ![576, 2048]⟩
abbrev S64x2048 : Shape := ⟨2, ![64, 2048]⟩
abbrev S64x64 : Shape := ⟨2, ![64, 64]⟩
abbrev S1x64x64 : Shape := ⟨3, ![1, 64, 64]⟩

abbrev nBuf : Space → Nat
  | .hbm => 62
  | .vmem => 10
  | .smem => 0
  | _ => 0

abbrev bufTy : (tb : Table) → Fin (tcTables nBuf tb) → BufTy
  | .hbm, ⟨0, _⟩ => ⟨S64x64x32x32, .f32⟩
  | .hbm, ⟨1, _⟩ => ⟨S64x64x3x3, .f32⟩
  | .hbm, ⟨2, _⟩ => ⟨S32x32x9, .i32⟩
  | .hbm, ⟨3, _⟩ => ⟨S64x64x9, .f32⟩
  | .hbm, ⟨4, _⟩ => ⟨S64x9x64, .f32⟩
  | .hbm, ⟨5, _⟩ => ⟨S64x576, .f32⟩
  | .hbm, ⟨6, _⟩ => ⟨S64x576, .bf16⟩
  | .hbm, ⟨7, _⟩ => ⟨S1024x9, .i32⟩
  | .hbm, ⟨8, _⟩ => ⟨S240x9, .i32⟩
  | .hbm, ⟨9, _⟩ => ⟨S9x240, .i32⟩
  | .hbm, ⟨10, _⟩ => ⟨S_, .i32⟩
  | .hbm, ⟨11, _⟩ => ⟨S_, .i32⟩
  | .hbm, ⟨12, _⟩ => ⟨S9x256, .i32⟩
  | .hbm, ⟨13, _⟩ => ⟨S2304, .i32⟩
  | .hbm, ⟨14, _⟩ => ⟨S_, .i32⟩
  | .hbm, ⟨15, _⟩ => ⟨S_, .i32⟩
  | .hbm, ⟨16, _⟩ => ⟨S2304, .i32⟩
  | .hbm, ⟨17, _⟩ => ⟨S240x9, .i32⟩
  | .hbm, ⟨18, _⟩ => ⟨S9x240, .i32⟩
  | .hbm, ⟨19, _⟩ => ⟨S_, .i32⟩
  | .hbm, ⟨20, _⟩ => ⟨S_, .i32⟩
  | .hbm, ⟨21, _⟩ => ⟨S9x256, .i32⟩
  | .hbm, ⟨22, _⟩ => ⟨S2304, .i32⟩
  | .hbm, ⟨23, _⟩ => ⟨S_, .i32⟩
  | .hbm, ⟨24, _⟩ => ⟨S_, .i32⟩
  | .hbm, ⟨25, _⟩ => ⟨S2304, .i32⟩
  | .hbm, ⟨26, _⟩ => ⟨S240x9, .i32⟩
  | .hbm, ⟨27, _⟩ => ⟨S9x240, .i32⟩
  | .hbm, ⟨28, _⟩ => ⟨S_, .i32⟩
  | .hbm, ⟨29, _⟩ => ⟨S_, .i32⟩
  | .hbm, ⟨30, _⟩ => ⟨S9x256, .i32⟩
  | .hbm, ⟨31, _⟩ => ⟨S2304, .i32⟩
  | .hbm, ⟨32, _⟩ => ⟨S_, .i32⟩
  | .hbm, ⟨33, _⟩ => ⟨S_, .i32⟩
  | .hbm, ⟨34, _⟩ => ⟨S2304, .i32⟩
  | .hbm, ⟨35, _⟩ => ⟨S240x9, .i32⟩
  | .hbm, ⟨36, _⟩ => ⟨S9x240, .i32⟩
  | .hbm, ⟨37, _⟩ => ⟨S_, .i32⟩
  | .hbm, ⟨38, _⟩ => ⟨S_, .i32⟩
  | .hbm, ⟨39, _⟩ => ⟨S9x256, .i32⟩
  | .hbm, ⟨40, _⟩ => ⟨S2304, .i32⟩
  | .hbm, ⟨41, _⟩ => ⟨S_, .i32⟩
  | .hbm, ⟨42, _⟩ => ⟨S_, .i32⟩
  | .hbm, ⟨43, _⟩ => ⟨S2304, .i32⟩
  | .hbm, ⟨44, _⟩ => ⟨S64x9, .i32⟩
  | .hbm, ⟨45, _⟩ => ⟨S9x64, .i32⟩
  | .hbm, ⟨46, _⟩ => ⟨S_, .i32⟩
  | .hbm, ⟨47, _⟩ => ⟨S_, .i32⟩
  | .hbm, ⟨48, _⟩ => ⟨S9x128, .i32⟩
  | .hbm, ⟨49, _⟩ => ⟨S1152, .i32⟩
  | .hbm, ⟨50, _⟩ => ⟨S_, .i32⟩
  | .hbm, ⟨51, _⟩ => ⟨S_, .i32⟩
  | .hbm, ⟨52, _⟩ => ⟨S2304, .i32⟩
  | .hbm, ⟨53, _⟩ => ⟨S1x2304, .i32⟩
  | .hbm, ⟨54, _⟩ => ⟨S1x2304, .i32⟩
  | .hbm, ⟨55, _⟩ => ⟨S1x2304, .i32⟩
  | .hbm, ⟨56, _⟩ => ⟨S1x2304, .i32⟩
  | .hbm, ⟨57, _⟩ => ⟨S1x2304, .i32⟩
  | .hbm, ⟨58, _⟩ => ⟨S5x2304, .i32⟩
  | .hbm, ⟨59, _⟩ => ⟨S5x1x2304, .i32⟩
  | .hbm, ⟨60, _⟩ => ⟨S64x64x1024, .f32⟩
  | .hbm, ⟨61, _⟩ => ⟨S64x64x1024, .f32⟩
  | .local _ .vmem, ⟨0, _⟩ => ⟨S16x64x1024, .f32⟩
  | .local _ .vmem, ⟨1, _⟩ => ⟨S16x64x1024, .f32⟩
  | .local _ .vmem, ⟨2, _⟩ => ⟨S64x576, .bf16⟩
  | .local _ .vmem, ⟨3, _⟩ => ⟨S5x1x2304, .i32⟩
  | .local _ .vmem, ⟨4, _⟩ => ⟨S16x64x1024, .f32⟩
  | .local _ .vmem, ⟨5, _⟩ => ⟨S16x64x1024, .f32⟩
  | .local _ .vmem, ⟨6, _⟩ => ⟨S5x512x2304, .bf16⟩
  | .local _ .vmem, ⟨7, _⟩ => ⟨S1024x1024, .bf16⟩
  | .local _ .vmem, ⟨8, _⟩ => ⟨S2x1024x2304, .bf16⟩
  | .local _ .vmem, ⟨9, _⟩ => ⟨S576x4096, .bf16⟩
  | _, _ => ⟨S64x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_call1_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_call2_v0 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_call3_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_call4_v0 : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_call5_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_call6_v0 : Ref sig .tc := ⟨.hbm, 38, rfl⟩
abbrev main_v22 : Ref sig .tc := ⟨.hbm, 39, rfl⟩
abbrev main_v23 : Ref sig .tc := ⟨.hbm, 40, rfl⟩
abbrev main_c_6 : Ref sig .tc := ⟨.hbm, 41, rfl⟩
abbrev main_call7_v0 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_7 : Ref sig .tc := ⟨.hbm, 46, rfl⟩
abbrev main_call8_v0 : Ref sig .tc := ⟨.hbm, 47, rfl⟩
abbrev main_v27 : Ref sig .tc := ⟨.hbm, 48, rfl⟩
abbrev main_v28 : Ref sig .tc := ⟨.hbm, 49, rfl⟩
abbrev main_c_8 : Ref sig .tc := ⟨.hbm, 50, rfl⟩
abbrev main_call9_v0 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x576 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5x1x2304 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S64x64x32x32 : Shape := ⟨4, ![64, 64, 32, 32]⟩
abbrev S64x64x3x3 : Shape := ⟨4, ![64, 64, 3, 3]⟩
abbrev S32x32x9 : Shape := ⟨3, ![32, 32, 9]⟩
abbrev S64x64x1024 : Shape := ⟨3, ![64, 64, 1024]⟩
abbrev S9216 : Shape := ⟨1, ![9216]⟩
abbrev S_ : Shape := ⟨0, ![]⟩
abbrev S9216x1 : Shape := ⟨2, ![9216, 1]⟩
abbrev S1 : Shape := ⟨1, ![1]⟩
abbrev S1x1 : Shape := ⟨2, ![1, 1]⟩
abbrev S64x64x9216 : Shape := ⟨3, ![64, 64, 9216]⟩
abbrev S64x64x1024x9 : Shape := ⟨4, ![64, 64, 1024, 9]⟩
abbrev S64x64x9 : Shape := ⟨3, ![64, 64, 9]⟩

abbrev nBuf : Space → Nat
  | .hbm => 32
  | .vmem => 0
  | .smem => 0
  | _ => 0

abbrev bufTy : (tb : Table) → Fin (tcTables nBuf tb) → BufTy
  | .hbm, ⟨0, _⟩ => ⟨S64x64x32x32, .f32⟩
  | .hbm, ⟨1, _⟩ => ⟨S64x64x3x3, .f32⟩
  | .hbm, ⟨2, _⟩ => ⟨S32x32x9, .i32⟩
  | .hbm, ⟨3, _⟩ => ⟨S64x64x1024, .f32⟩
  | .hbm, ⟨4, _⟩ => ⟨S9216, .i32⟩
  | .hbm, ⟨5, _⟩ => ⟨S_, .i32⟩
  | .hbm, ⟨6, _⟩ => ⟨S9216, .i32⟩
  | .hbm, ⟨7, _⟩ => ⟨S9216, .i1⟩
  | .hbm, ⟨8, _⟩ => ⟨S_, .i32⟩
  | .hbm, ⟨9, _⟩ => ⟨S9216, .i32⟩
  | .hbm, ⟨10, _⟩ => ⟨S9216, .i32⟩
  | .hbm, ⟨11, _⟩ => ⟨S9216, .i32⟩
  | .hbm, ⟨12, _⟩ => ⟨S9216x1, .i32⟩
  | .hbm, ⟨13, _⟩ => ⟨S1, .i32⟩
  | .hbm, ⟨14, _⟩ => ⟨S_, .i32⟩
  | .hbm, ⟨15, _⟩ => ⟨S9216x1, .i32⟩
  | .hbm, ⟨16, _⟩ => ⟨S9216x1, .i1⟩
  | .hbm, ⟨17, _⟩ => ⟨S1x1, .i32⟩
  | .hbm, ⟨18, _⟩ => ⟨S9216x1, .i32⟩
  | .hbm, ⟨19, _⟩ => ⟨S9216x1, .i1⟩
  | .hbm, ⟨20, _⟩ => ⟨S9216x1, .i1⟩
  | .hbm, ⟨21, _⟩ => ⟨S_, .i1⟩
  | .hbm, ⟨22, _⟩ => ⟨S9216, .i1⟩
  | .hbm, ⟨23, _⟩ => ⟨S64x64x9216, .f32⟩
  | .hbm, ⟨24, _⟩ => ⟨S64x64x9216, .i1⟩
  | .hbm, ⟨25, _⟩ => ⟨S_, .f32⟩
  | .hbm, ⟨26, _⟩ => ⟨S64x64x9216, .f32⟩
  | .hbm, ⟨27, _⟩ => ⟨S64x64x9216, .f32⟩
  | .hbm, ⟨28, _⟩ => ⟨S64x64x1024x9, .f32⟩
  | .hbm, ⟨29, _⟩ => ⟨S64x64x9, .f32⟩
  | .hbm, ⟨30, _⟩ => ⟨S64x64x1024, .f32⟩
  | .hbm, ⟨31, _⟩ => ⟨S64x64x1024, .f32⟩
  | _, _ => ⟨S64x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩

abbrev nD : Nat := 1
abbrev τ : Topo := Topo.v7x

variable {F : FTy → Type} [FloatOps F]
-- ==== Proof.Selection.lean ====
/-
  The selection the first grid point builds and keeps: for each of the five chunks, a table whose column picks
  the pixel its index names out of a window of 512 pixels. Read at an index, over extended reals.
-/
module

public import proofs.«01_k».proof.Proof.Gen.KernelIdeal.Frame
public import Idealize.ShloMosaic.Lib.Pointwise
public import Idealize.ShloMosaic.Lib.Pipeline.CanonAppend
public import Idealize.ShloMosaic.Lib.WholeRead

@[expose] public section

set_option maxRecDepth 65536

noncomputable section

namespace Cert.Sampled

open Idealize.ShloMosaic Idealize.ShloMosaic.TcCoe Cert.KernelIdeal Cert.KernelIdeal.Gen

/-- The word of the first pixel of a chunk's window. -/
def firstPixel : Fin 5 → BitVec 32 := ![0#32, 104#32, 344#32, 512#32, 512#32]

/-- One entry of the selection: one where the two words agree, zero elsewhere. -/
def pick (a b : BitVec 32) : EReal := if a = b then 1 else 0

theorem select_eq (a b : BitVec 32) :
    (Scalar.select (IntOp.cmpi CmpIPredicate.eq a b) (1 : EReal) 0) = pick a b := by
  unfold pick
  by_cases h : a = b
  · simp [Scalar.select, IntOp.cmpi, h]
  · have hb : (a == b) = false := by simpa using h
    simp [Scalar.select, IntOp.cmpi, h, hb]

/-- The whole selection, from the table of indices. -/
def selection (x2 : IVec S5x1x2304 32) : FVec Ideal S5x512x2304 .bf16 := fun y =>
  pick (BitVec.ofNat 32 (y 1).val + firstPixel (y 0)) (x2 (ix3 (y 0) (0 : Fin 1) (y 2)))

theorem pay3_apply (v : IVec S1x1x2304 32) (z : Fin 1) (u : Fin 512) (q : Fin 2304) :
    k0_pay3 (F := Ideal) v (ix3 z u q) = pick (BitVec.ofNat 32 u.val + 0#32) (v (ix3 0 0 q)) := by
  pointwise [k0_pay3]
  exact select_eq _ _

theorem pay4_apply (v : IVec S1x1x2304 32) (z : Fin 1) (u : Fin 512) (q : Fin 2304) :
    k0_pay4 (F := Ideal) v (ix3 z u q) = pick (BitVec.ofNat 32 u.val + 104#32) (v (ix3 0 0 q)) := by
  pointwise [k0_pay4]
  exact select_eq _ _

theorem pay7_apply (v : IVec S1x1x2304 32) (z : Fin 1) (u : Fin 512) (q : Fin 2304) :
    k0_pay7 (F := Ideal) (k0_pay5 (F := Ideal) v) kernelRun0_A.sl.cst_3884 k0_pay6 (ix3 z u q) =
      pick (BitVec.ofNat 32 u.val + 344#32) (v (ix3 0 0 q)) := by
  pointwise [k0_pay7, k0_pay5, k0_pay6, kernelRun0_A.sl.cst_3884]
  exact select_eq _ _

theorem pay8_apply (v : IVec S1x1x2304 32) (z : Fin 1) (u : Fin 512) (q : Fin 2304) :
    k0_pay8 (F := Ideal) kernelRun0_A.sl.v3990 v (ix3 z u q) =
      pick (BitVec.ofNat 32 u.val + 512#32) (v (ix3 0 0 q)) := by
  pointwise [k0_pay8, kernelRun0_A.sl.v3990]
  exact select_eq _ _

theorem pay9_apply (v : IVec S1x1x2304 32) (z : Fin 1) (u : Fin 512) (q : Fin 2304) :
    k0_pay9 (F := Ideal) kernelRun0_A.sl.v3990 v (ix3 z u q) =
      pick (BitVec.ofNat 32 u.val + 512#32) (v (ix3 0 0 q)) := by
  pointwise [k0_pay9, kernelRun0_A.sl.v3990]
  exact select_eq _ _

/-- A payload that is a table of picks agrees with the selection where it is stored. -/
theorem piece_agrees (x2 : IVec S5x1x2304 32) (j : Fin 5) (arg3 : Memref sig .tc .vmem S5x1x2304 .i32) (harg3 : arg3.IsWhole)
    (inb : ∀ a, (![j.val, 0, 0] : Fin 3 → ℕ) a + S1x512x2304.size a ≤ S5x512x2304.size a)
    (inb' : ∀ a, (![j.val, 0, 0] : Fin 3 → ℕ) a + S1x1x2304.size a ≤ S5x1x2304.size a)
    (f : IVec S1x1x2304 32 → FVec Ideal S1x512x2304 .bf16)
    (hf : ∀ (v : IVec S1x1x2304 32) (z : Fin 1) (u : Fin 512) (q : Fin 2304),
      f v (ix3 z u q) = pick (BitVec.ofNat 32 u.val + firstPixel j) (v (ix3 0 0 q)))
    (x : S1x512x2304.Idx) :
    f (arg3.view.readAt (Elt Ideal) (Rect.unit (s := S5x1x2304) ![j.val, 0, 0] S1x1x2304.size inb').toLoadRect
        (harg3.unread x2)) x =
      selection x2 ((Rect.unit (s := S5x512x2304) ![j.val, 0, 0] S1x512x2304.size inb).emb x) := by
  obtain ⟨z, u, q, rfl⟩ : ∃ (z : Fin 1) (u : Fin 512) (q : Fin 2304), x = ix3 z u q := ⟨x 0, x 1, x 2, eq_ix3 x⟩
  rw [hf, Memref.IsWhole.readAt_unread]
  have e : (Rect.unit (s := S5x512x2304) ![j.val, 0, 0] S1x512x2304.size inb).emb (ix3 z u q) = ix3 j u q := by
    funext a
    apply Fin.ext
    fin_cases a
    · show j.val + 1 * z.val = j.val
      omega
    · show 0 + 1 * u.val = u.val
      omega
    · show 0 + 1 * q.val = q.val
      omega
  have e' : (Rect.unit (s := S5x1x2304) ![j.val, 0, 0] S1x1x2304.size inb').toLoadRect.idx (ix3 0 0 q) =
      ix3 j (0 : Fin 1) q := by
    funext a
    apply Fin.ext
    fin_cases a
    · show j.val + 1 * 0 = j.val
      omega
    · rfl
    · show 0 + 1 * q.val = q.val
      omega
  rw [e]
  exact congrArg _ (congrArg x2 e')

/-- The five stores of the first grid point leave the selection. -/
theorem canon_selection (c : Dev nD) (arg3 : Memref sig .tc .vmem S5x1x2304 .i32) (harg3 : arg3.IsWhole)
    (x2 : IVec S5x1x2304 32) :
    View.canon (kernelRun0_A.sl.HS0_5 (F := Ideal) c arg3 harg3 x2) = selection x2 := by
  funext y
  refine View.canon_apply_of_pieces (selection x2) _ ?_ y
    (View.cover_of_tiledL (s := S5x512x2304) (kernelRun0_A.sl.HS0_5 (F := Ideal) c arg3 harg3 x2) S1x512x2304.size
      (by sl_kernel_rfl) y)
  unfold kernelRun0_A.sl.HS0_5
  simp only [List.forall_mem_cons, List.not_mem_nil, false_imp_iff, implies_true, and_true]
  refine ⟨?_, ?_, ?_, ?_, ?_⟩
  · exact piece_agrees x2 4 arg3 harg3 _ _ (fun v => k0_pay9 (F := Ideal) kernelRun0_A.sl.v3990 v) pay9_apply
  · exact piece_agrees x2 3 arg3 harg3 _ _ (fun v => k0_pay8 (F := Ideal) kernelRun0_A.sl.v3990 v) pay8_apply
  · exact piece_agrees x2 2 arg3 harg3 _ _
      (fun v => k0_pay7 (F := Ideal) (k0_pay5 (F := Ideal) v) kernelRun0_A.sl.cst_3884 k0_pay6) pay7_apply
  · exact piece_agrees x2 1 arg3 harg3 _ _ (fun v => k0_pay4 (F := Ideal) v) pay4_apply
  · exact piece_agrees x2 0 arg3 harg3 _ _ (fun v => k0_pay3 (F := Ideal) v) pay3_apply

end Cert.Sampled

end
end
-- ==== Proof.Copies.lean ====
/-
  The gathered columns of one chunk of locations, as the kernel lays them out: 144 block copies, 9 for each of
  the 16 images of a block, out of one half of the double buffer into the operand of the final product. The
  list of those copies is given once, as a recursion on the copy's number, for either chunk width, and the
  operand is read at an index.
-/
module

public import proofs.«01_k».proof.Proof.Gen.KernelIdeal.Skeleton
public import Idealize.ShloMosaic.Lib.Pointwise
public import Idealize.ShloMosaic.Lib.Pipeline.CanonAppend

@[expose] public section

noncomputable section

namespace Cert.Sampled

open Idealize.ShloMosaic Idealize.ShloMosaic.TcCoe Cert.KernelIdeal

variable {F : FTy → Type} [FloatOps F] {κ : Kind} {sp : Space}

/-- A chunk is `pad` columns wide and its copies stay inside both buffers. -/
abbrev Fits (pad : ℕ) : Prop := 0 < pad ∧ pad ≤ 256

/-- Copy number `n`: image `n / 9`, tap `n % 9`. It reads the image's 64 rows and the tap's `pad` columns of half
    `slot` of the double buffer, and stores them at the tap's rows and the image's columns. -/
def copyPiece (pad : ℕ) (hp : Fits pad) (slot : ℕ) (hs : slot < 2) (v : View sig κ sp S2x1024x2304 .bf16)
    (L : List (View.Piece (Elt F) S2x1024x2304 .bf16)) (n : ℕ) : View.Piece (Elt F) S576x4096 .bf16 :=
  ⟨Rect.unit ![n % 9 * 64, n / 9 % 16 * pad] ![64, pad] (by
      intro a
      obtain ⟨_, h⟩ := hp
      have h1 : n % 9 * 64 + 64 ≤ 576 := by omega
      have h2 : n / 9 % 16 * pad + pad ≤ 4096 := by
        have : n / 9 % 16 * pad ≤ 15 * 256 := Nat.mul_le_mul (by omega) h
        omega
      fin_cases a
      · exact h1
      · exact h2),
    shapeCast ⟨2, ![64, pad]⟩
      (shapeCast ⟨2, ![64, pad]⟩
        (v.readCov L (Rect.unit ![slot, n / 9 % 16 * 64, n % 9 * pad] ![1, 64, pad] (by
          intro a
          obtain ⟨_, h⟩ := hp
          have h1 : slot + 1 ≤ 2 := hs
          have h2 : n / 9 % 16 * 64 + 64 ≤ 1024 := by omega
          have h3 : n % 9 * pad + pad ≤ 2304 := by
            have : n % 9 * pad ≤ 8 * 256 := Nat.mul_le_mul (by omega) h
            omega
          fin_cases a
          · exact h1
          · exact h2
          · exact h3)).toLoadRect)
        (by simp [Shape.ShapeCasts, Shape.numel, Fin.prod_univ_succ]))
      rfl⟩

/-- The first `n` copies of a chunk, the last made first, over the earlier contents. -/
def copies (pad : ℕ) (hp : Fits pad) (slot : ℕ) (hs : slot < 2) (v : View sig κ sp S2x1024x2304 .bf16)
    (L : List (View.Piece (Elt F) S2x1024x2304 .bf16)) (L₀ : List (View.Piece (Elt F) S576x4096 .bf16)) :
    ℕ → List (View.Piece (Elt F) S576x4096 .bf16)
  | 0 => L₀
  | n + 1 => copyPiece pad hp slot hs v L n :: copies pad hp slot hs v L L₀ n

theorem mem_copies (pad : ℕ) (hp : Fits pad) (slot : ℕ) (hs : slot < 2) (v : View sig κ sp S2x1024x2304 .bf16)
    (L : List (View.Piece (Elt F) S2x1024x2304 .bf16)) (p : View.Piece (Elt F) S576x4096 .bf16) :
    ∀ n, p ∈ copies pad hp slot hs v L [] n ↔ ∃ k < n, p = copyPiece pad hp slot hs v L k
  | 0 => by simp [copies]
  | n + 1 => by
    rw [copies, List.mem_cons, mem_copies pad hp slot hs v L p n]
    constructor
    · rintro (h | ⟨k, hk, h⟩)
      · exact ⟨n, by omega, h⟩
      · exact ⟨k, by omega, h⟩
    · rintro ⟨k, hk, h⟩
      rcases Nat.lt_succ_iff_lt_or_eq.mp hk with hk | rfl
      · exact Or.inr ⟨k, hk, h⟩
      · exact Or.inl h

theorem copies_append (pad : ℕ) (hp : Fits pad) (slot : ℕ) (hs : slot < 2) (v : View sig κ sp S2x1024x2304 .bf16)
    (L : List (View.Piece (Elt F) S2x1024x2304 .bf16)) (L₀ : List (View.Piece (Elt F) S576x4096 .bf16)) :
    ∀ n, copies pad hp slot hs v L L₀ n = copies pad hp slot hs v L [] n ++ L₀
  | 0 => rfl
  | n + 1 => by rw [copies, copies, copies_append pad hp slot hs v L L₀ n, List.cons_append]

/-- What the operand of the final product holds at row `r` and column `q`: row `r` is channel `r % 64` of tap `r / 64`,
    column `q` is location `q % pad` of image `q / pad`. -/
def laid (pad : ℕ) (X : ℕ → ℕ → Elt F .bf16) (r q : ℕ) : Elt F .bf16 :=
  X (q / pad * 64 + r % 64) (r / 64 * pad + q % pad)

/-- A block with a leading unit axis, cast to a matrix and cast again to itself, read at an index. -/
theorem cast_twice {α : Type} (pad : ℕ) (f : (⟨3, ![1, 64, pad]⟩ : Shape).Idx → α)
    (h₁ : (⟨3, ![1, 64, pad]⟩ : Shape).ShapeCasts ⟨2, ![64, pad]⟩)
    (h₂ : (⟨2, ![64, pad]⟩ : Shape).ShapeCasts ⟨2, ![64, pad]⟩) (x : (⟨2, ![64, pad]⟩ : Shape).Idx) :
    shapeCast ⟨2, ![64, pad]⟩ (shapeCast ⟨2, ![64, pad]⟩ f h₁) h₂ x = f (ix3 (⟨0, by decide⟩ : Fin 1) (x 0 : Fin 64) (x 1 : Fin pad)) := by
  refine (Idealize.ShloMosaic.shapeCast_apply _ _ x x rfl).trans ?_
  refine Idealize.ShloMosaic.shapeCast_apply f h₁ x (ix3 (⟨0, by decide⟩ : Fin 1) (x 0 : Fin 64) (x 1 : Fin pad)) ?_
  rw [Shape.rowMajor_val_three, Shape.rowMajor_val_two]
  show (0 * 64 + (x 0).val) * pad + (x 1).val = (x 0).val * pad + (x 1).val
  rw [Nat.zero_mul, Nat.zero_add]

/-- A copy stores the operand's own values, when the half it reads holds `X`. -/
theorem copyPiece_eq (pad : ℕ) (hp : Fits pad) (slot : ℕ) (hs : slot < 2) (v : View sig κ sp S2x1024x2304 .bf16)
    (L : List (View.Piece (Elt F) S2x1024x2304 .bf16)) (X : ℕ → ℕ → Elt F .bf16)
    (hX : ∀ (r : Fin 1024) (q : Fin 2304), q.val < 9 * pad → View.canon L (ix3 ⟨slot, hs⟩ r q) = X r q) (n : ℕ)
    (hn : n < 144) (x : (copyPiece pad hp slot hs v L n).1.shape.Idx) :
    (copyPiece pad hp slot hs v L n).2 x =
      (fun y : S576x4096.Idx => laid pad X (y 0).val (y 1).val) ((copyPiece pad hp slot hs v L n).1.emb x) := by
  have hx0 : (x 0).val < 64 := (x 0).isLt
  have hx1 : (x 1).val < pad := (x 1).isLt
  have e0 : (((copyPiece pad hp slot hs v L n).1.emb x) 0).val = n % 9 * 64 + 1 * (x 0).val := rfl
  have e1 : (((copyPiece pad hp slot hs v L n).1.emb x) 1).val = n / 9 % 16 * pad + 1 * (x 1).val := rfl
  have d1 : (n / 9 % 16 * pad + 1 * (x 1).val) / pad = n / 9 % 16 := by
    rw [Nat.one_mul, Nat.mul_comm, Nat.mul_add_div hp.1, Nat.div_eq_of_lt hx1, Nat.add_zero]
  have m1 : (n / 9 % 16 * pad + 1 * (x 1).val) % pad = (x 1).val := by
    rw [Nat.one_mul, Nat.mul_comm, Nat.mul_add_mod, Nat.mod_eq_of_lt hx1]
  have d0 : (n % 9 * 64 + 1 * (x 0).val) / 64 = n % 9 := by omega
  have m0 : (n % 9 * 64 + 1 * (x 0).val) % 64 = (x 0).val := by omega
  have hk : n % 9 * pad + (x 1).val < 9 * pad := by
    have : n % 9 * pad + pad ≤ 9 * pad := by
      rw [← Nat.succ_mul]; exact Nat.mul_le_mul (by omega) (Nat.le_refl _)
    omega
  have h9 : 9 * pad ≤ 2304 := by have := hp.2; omega
  show _ = laid pad X _ _
  rw [e0, e1, laid, d1, m1, d0, m0,
    ← hX ⟨n / 9 % 16 * 64 + (x 0).val, by omega⟩ ⟨n % 9 * pad + (x 1).val, by omega⟩ hk]
  unfold copyPiece
  dsimp only
  rw [View.readCov_eq_canon']
  refine (cast_twice pad _ _ _ x).trans ?_
  congr 1
  funext a
  apply Fin.ext
  fin_cases a
  · rfl
  · show n / 9 % 16 * 64 + 1 * (x 0).val = _
    rw [Nat.one_mul]; rfl
  · show n % 9 * pad + 1 * (x 1).val = _
    rw [Nat.one_mul]; rfl

/-- After a chunk's 144 copies the operand holds the chunk's columns, laid out by tap and image, whatever it held. -/
theorem canon_copies (pad : ℕ) (hp : Fits pad) (slot : ℕ) (hs : slot < 2) (v : View sig κ sp S2x1024x2304 .bf16)
    (L : List (View.Piece (Elt F) S2x1024x2304 .bf16)) (L₀ : List (View.Piece (Elt F) S576x4096 .bf16))
    (X : ℕ → ℕ → Elt F .bf16)
    (hX : ∀ (r : Fin 1024) (q : Fin 2304), q.val < 9 * pad → View.canon L (ix3 ⟨slot, hs⟩ r q) = X r q)
    (r : Fin 576) (q : Fin 4096) (hq : q.val < 16 * pad) :
    View.canon (copies pad hp slot hs v L L₀ 144) (ix2 r q) = laid pad X r q := by
  rw [copies_append]
  refine View.canon_append_of_pieces (fun y : S576x4096.Idx => laid pad X (y 0).val (y 1).val) L₀
    (copies pad hp slot hs v L [] 144) ?_ (ix2 r q) ?_
  · intro p hpm x
    obtain ⟨n, hn, rfl⟩ := (mem_copies pad hp slot hs v L p 144).mp hpm
    exact copyPiece_eq pad hp slot hs v L X hX n hn x
  · have hb : q.val / pad < 16 := Nat.div_lt_of_lt_mul (by rw [Nat.mul_comm]; exact hq)
    have hr : r.val / 64 < 9 := by omega
    refine ⟨copyPiece pad hp slot hs v L (q.val / pad * 9 + r.val / 64),
      (mem_copies pad hp slot hs v L _ 144).mpr ⟨_, by omega, rfl⟩, ?_⟩
    rw [show (copyPiece pad hp slot hs v L (q.val / pad * 9 + r.val / 64)).1.set = _ from rfl]
    refine (LoadRect.mem_set _).mpr ?_
    have k1 : (q.val / pad * 9 + r.val / 64) % 9 = r.val / 64 := by omega
    have k2 : (q.val / pad * 9 + r.val / 64) / 9 % 16 = q.val / pad := by omega
    intro a
    fin_cases a
    · refine ⟨r.val % 64, Nat.mod_lt _ (by decide), ?_⟩
      show r.val = (q.val / pad * 9 + r.val / 64) % 9 * 64 + 1 * (r.val % 64)
      omega
    · refine ⟨q.val % pad, Nat.mod_lt _ hp.1, ?_⟩
      show q.val = (q.val / pad * 9 + r.val / 64) / 9 % 16 * pad + 1 * (q.val % pad)
      rw [k2, Nat.one_mul, Nat.mul_comm, Nat.div_add_mod]

end Cert.Sampled

end
end
-- ==== Proof.Body.lean ====
/-
  What one grid point stores into its block of the result, in a form that does not mention which of the two
  cases of the body ran: the operands of the five first products are arguments. The two cases' own lists of
  stores are this list, by unfolding.
-/
module

public import proofs.«01_k».proof.Proof.Gen.KernelIdeal.Frame
public import proofs.«01_k».proof.Proof.Copies

@[expose] public section

set_option maxRecDepth 65536
set_option maxHeartbeats 2000000

noncomputable section

namespace Cert.Sampled

open Idealize.ShloMosaic Idealize.ShloMosaic.TcCoe Cert.KernelIdeal Cert.KernelIdeal.Gen

variable {F : FTy → Type} [FloatOps F] {κ : Kind} {sp : Space}

/-- The store of image `n`'s part of a chunk's product: `pb` of its `pad` columns, at location `P` on. -/
def outPiece (pad pb P : ℕ) (hp : Fits pad) (hb : pb ≤ pad) (hP : P + pb ≤ 1024)
    (prod : Vec F ⟨2, ![64, 16 * pad]⟩ .f32) (n : ℕ) : View.Piece (Elt F) S16x64x1024 .f32 :=
  ⟨Rect.unit ![n % 16, 0, P] ![1, 64, pb] (by
      intro a
      have h1 : n % 16 + 1 ≤ 16 := by omega
      fin_cases a
      · exact h1
      · exact Nat.le_refl 64
      · exact hP),
    shapeCast ⟨3, ![1, 64, pb]⟩
      (extractStridedSlice ⟨2, ![64, pb]⟩ ![0, n % 16 * pad] prod (by
        refine ⟨rfl, ?_⟩
        intro a
        have h2 : n % 16 * pad + pb ≤ 16 * pad := by
          have : n % 16 * pad ≤ 15 * pad := Nat.mul_le_mul (by omega) (Nat.le_refl _)
          omega
        fin_cases a
        · exact Nat.le_refl 64
        · exact h2))
      (by simp [Shape.ShapeCasts, Shape.numel, Fin.prod_univ_succ])⟩

/-- The first `n` of a chunk's stores, the last made first, over the earlier ones. -/
def outPieces (pad pb P : ℕ) (hp : Fits pad) (hb : pb ≤ pad) (hP : P + pb ≤ 1024)
    (prod : Vec F ⟨2, ![64, 16 * pad]⟩ .f32) (L₀ : List (View.Piece (Elt F) S16x64x1024 .f32)) :
    ℕ → List (View.Piece (Elt F) S16x64x1024 .f32)
  | 0 => L₀
  | n + 1 => outPiece pad pb P hp hb hP prod n :: outPieces pad pb P hp hb hP prod L₀ n

/-- A chunk's stores leave the chunk's product at the locations they cover. -/
theorem outPieces_hit (pad pb P : ℕ) (hp : Fits pad) (hb : pb ≤ pad) (hP : P + pb ≤ 1024)
    (prod : Vec F ⟨2, ![64, 16 * pad]⟩ .f32) (L₀ : List (View.Piece (Elt F) S16x64x1024 .f32))
    (b : Fin 16) (o : Fin 64) (p : Fin 1024) (h₁ : P ≤ p.val) (h₂ : p.val < P + pb) :
    ∀ n, n ≤ 16 → b.val < n → View.canon (outPieces pad pb P hp hb hP prod L₀ n) (ix3 b o p) =
      prod (ix2 o ⟨b.val * pad + (p.val - P), by
        have : b.val * pad ≤ 15 * pad := Nat.mul_le_mul (by omega) (Nat.le_refl _)
        omega⟩)
  | 0, _, h => absurd h (Nat.not_lt_zero _)
  | n + 1, hn, h => by
    rw [outPieces]
    by_cases hbn : b.val = n
    · have hx : (outPiece pad pb P hp hb hP prod n).1.emb
          (ix3 (⟨0, by decide⟩ : Fin 1) o (⟨p.val - P, by omega⟩ : Fin pb)) = ix3 b o p := by
        funext a
        apply Fin.ext
        fin_cases a
        · show n % 16 + 1 * 0 = b.val
          omega
        · show 0 + 1 * o.val = o.val
          omega
        · show P + 1 * (p.val - P) = p.val
          omega
      rw [← hx]
      refine (View.canon_cons_emb _ _ _ _).trans ?_
      refine (Idealize.ShloMosaic.shapeCast_apply _ _ _ (ix2 o (⟨p.val - P, by omega⟩ : Fin pb)) ?_).trans ?_
      · rw [Shape.rowMajor_val_three, Shape.rowMajor_val_two]
        show o.val * pb + (p.val - P) = (0 * 64 + o.val) * pb + (p.val - P)
        rw [Nat.zero_mul, Nat.zero_add]
      · refine congrArg prod ?_
        funext a
        apply Fin.ext
        fin_cases a
        · show 0 + o.val = o.val
          omega
        · show n % 16 * pad + (p.val - P) = b.val * pad + (p.val - P)
          rw [hbn, Nat.mod_eq_of_lt (by omega)]
    · rw [View.canon_cons_of_not_mem]
      · exact outPieces_hit pad pb P hp hb hP prod L₀ b o p h₁ h₂ n (by omega) (by omega)
      · intro hm
        obtain ⟨i, hi, he⟩ := (LoadRect.mem_set _).mp hm (0 : Fin 3)
        have hi1 : i < 1 := hi
        have he' : b.val = n % 16 + 1 * i := he
        omega

/-- A chunk's stores leave the other locations as they were. -/
theorem outPieces_miss (pad pb P : ℕ) (hp : Fits pad) (hb : pb ≤ pad) (hP : P + pb ≤ 1024)
    (prod : Vec F ⟨2, ![64, 16 * pad]⟩ .f32) (L₀ : List (View.Piece (Elt F) S16x64x1024 .f32))
    (b : Fin 16) (o : Fin 64) (p : Fin 1024) (h : p.val < P ∨ P + pb ≤ p.val) :
    ∀ n, View.canon (outPieces pad pb P hp hb hP prod L₀ n) (ix3 b o p) = View.canon L₀ (ix3 b o p)
  | 0 => rfl
  | n + 1 => by
    rw [outPieces, View.canon_cons_of_not_mem]
    · exact outPieces_miss pad pb P hp hb hP prod L₀ b o p h n
    · intro hm
      obtain ⟨i, hi, he⟩ := (LoadRect.mem_set _).mp hm (2 : Fin 3)
      have hi1 : i < pb := hi
      have he' : p.val = P + 1 * i := he
      omega

/-- The store of a wide chunk's first product into half `slot` of the double buffer. -/
def halfPiece (slot : ℕ) (hs : slot < 2) (a : Vec F S1024x512 .bf16) (w : Vec F S1x512x2304 .bf16) :
    View.Piece (Elt F) S2x1024x2304 .bf16 :=
  ⟨Rect.unit ![slot, 0, 0] S1x1024x2304.size (by
      intro k
      have h1 : slot + 1 ≤ 2 := hs
      fin_cases k
      · exact h1
      · exact Nat.le_refl 1024
      · exact Nat.le_refl 2304), k0_pay11 a w⟩

/-- The store of the last chunk's first product, half as wide, into half 0. -/
def lastPiece (a : Vec F S1024x512 .bf16) (w : Vec F S1x512x1152 .bf16) :
    View.Piece (Elt F) S2x1024x2304 .bf16 :=
  ⟨Rect.unit ![0, 0, 0] S1x1024x1152.size inb_S2x1024x2304_S1x1024x1152_0_0_0, k0_pay538 a w⟩

/-- The double buffer after the first two products, -/
def half2 (a₀ a₁ : Vec F S1024x512 .bf16) (w₀ w₁ : Vec F S1x512x2304 .bf16) :
    List (View.Piece (Elt F) S2x1024x2304 .bf16) :=
  [halfPiece 1 (by decide) a₁ w₁, halfPiece 0 (by decide) a₀ w₀]

/-- after the third, -/
def half3 (a₀ a₁ a₂ : Vec F S1024x512 .bf16) (w₀ w₁ w₂ : Vec F S1x512x2304 .bf16) :
    List (View.Piece (Elt F) S2x1024x2304 .bf16) :=
  halfPiece 0 (by decide) a₂ w₂ :: half2 a₀ a₁ w₀ w₁

/-- after the fourth, -/
def half4 (a₀ a₁ a₂ a₃ : Vec F S1024x512 .bf16) (w₀ w₁ w₂ w₃ : Vec F S1x512x2304 .bf16) :
    List (View.Piece (Elt F) S2x1024x2304 .bf16) :=
  halfPiece 1 (by decide) a₃ w₃ :: half3 a₀ a₁ a₂ w₀ w₁ w₂

/-- and after the last. -/
def half5 (a₀ a₁ a₂ a₃ : Vec F S1024x512 .bf16) (w₀ w₁ w₂ w₃ : Vec F S1x512x2304 .bf16)
    (w₄ : Vec F S1x512x1152 .bf16) : List (View.Piece (Elt F) S2x1024x2304 .bf16) :=
  lastPiece a₃ w₄ :: half4 a₀ a₁ a₂ a₃ w₀ w₁ w₂ w₃

section Columns

variable (v7 : View sig κ sp S2x1024x2304 .bf16) (a₀ a₁ a₂ a₃ : Vec F S1024x512 .bf16)
    (w₀ w₁ w₂ w₃ : Vec F S1x512x2304 .bf16) (w₄ : Vec F S1x512x1152 .bf16)

/-- The final product's operand after the first chunk's copies, -/
def cols₁ : List (View.Piece (Elt F) S576x4096 .bf16) :=
  copies 256 (by decide) 0 (by decide) v7 (half2 a₀ a₁ w₀ w₁) [] 144

/-- after the second's, -/
def cols₂ : List (View.Piece (Elt F) S576x4096 .bf16) :=
  copies 256 (by decide) 1 (by decide) v7 (half3 a₀ a₁ a₂ w₀ w₁ w₂) (cols₁ v7 a₀ a₁ w₀ w₁) 144

/-- the third's, -/
def cols₃ : List (View.Piece (Elt F) S576x4096 .bf16) :=
  copies 256 (by decide) 0 (by decide) v7 (half4 a₀ a₁ a₂ a₃ w₀ w₁ w₂ w₃) (cols₂ v7 a₀ a₁ a₂ w₀ w₁ w₂) 144

/-- the fourth's, -/
def cols₄ : List (View.Piece (Elt F) S576x4096 .bf16) :=
  copies 256 (by decide) 1 (by decide) v7 (half5 a₀ a₁ a₂ a₃ w₀ w₁ w₂ w₃ w₄)
    (cols₃ v7 a₀ a₁ a₂ a₃ w₀ w₁ w₂ w₃) 144

/-- and the last's. -/
def cols₅ : List (View.Piece (Elt F) S576x4096 .bf16) :=
  copies 128 (by decide) 0 (by decide) v7 (half5 a₀ a₁ a₂ a₃ w₀ w₁ w₂ w₃ w₄)
    (cols₄ v7 a₀ a₁ a₂ a₃ w₀ w₁ w₂ w₃ w₄) 144

end Columns

/-- A store into one half leaves the other half as it was. -/
theorem halfPiece_miss (slot : ℕ) (hs : slot < 2) (a : Vec F S1024x512 .bf16) (w : Vec F S1x512x2304 .bf16)
    (L : List (View.Piece (Elt F) S2x1024x2304 .bf16)) (k : Fin 2) (hk : k.val ≠ slot) (r : Fin 1024) (q : Fin 2304) :
    View.canon (halfPiece slot hs a w :: L) (ix3 k r q) = View.canon L (ix3 k r q) := by
  rw [View.canon_cons_of_not_mem]
  intro hm
  obtain ⟨i, hi, he⟩ := (LoadRect.mem_set _).mp hm (0 : Fin 3)
  have hi1 : i < 1 := hi
  have he' : k.val = slot + 1 * i := he
  omega

theorem lastPiece_miss (a : Vec F S1024x512 .bf16) (w : Vec F S1x512x1152 .bf16)
    (L : List (View.Piece (Elt F) S2x1024x2304 .bf16)) (k : Fin 2) (hk : k.val ≠ 0) (r : Fin 1024) (q : Fin 2304) :
    View.canon (lastPiece a w :: L) (ix3 k r q) = View.canon L (ix3 k r q) := by
  rw [View.canon_cons_of_not_mem]
  intro hm
  obtain ⟨i, hi, he⟩ := (LoadRect.mem_set _).mp hm (0 : Fin 3)
  have hi1 : i < 1 := hi
  have he' : k.val = 0 + 1 * i := he
  omega

/-- A store into a half leaves its payload there. -/
theorem halfPiece_hit (slot : ℕ) (hs : slot < 2) (a : Vec F S1024x512 .bf16) (w : Vec F S1x512x2304 .bf16)
    (L : List (View.Piece (Elt F) S2x1024x2304 .bf16)) (r : Fin 1024) (q : Fin 2304) :
    View.canon (halfPiece slot hs a w :: L) (ix3 (⟨slot, hs⟩ : Fin 2) r q) =
      k0_pay11 a w (ix3 (⟨0, by decide⟩ : Fin 1) r q) := by
  have hx : (halfPiece slot hs a w).1.emb (ix3 (⟨0, by decide⟩ : Fin 1) r q) = ix3 (⟨slot, hs⟩ : Fin 2) r q := by
    funext k
    apply Fin.ext
    fin_cases k
    · rfl
    · show 0 + 1 * r.val = r.val
      omega
    · show 0 + 1 * q.val = q.val
      omega
  rw [← hx]
  exact View.canon_cons_emb _ _ _ _

theorem lastPiece_hit (a : Vec F S1024x512 .bf16) (w : Vec F S1x512x1152 .bf16)
    (L : List (View.Piece (Elt F) S2x1024x2304 .bf16)) (r : Fin 1024) (q : Fin 2304) (hq : q.val < 1152) :
    View.canon (lastPiece a w :: L) (ix3 (⟨0, by decide⟩ : Fin 2) r q) =
      k0_pay538 a w (ix3 (⟨0, by decide⟩ : Fin 1) r (⟨q.val, hq⟩ : Fin 1152)) := by
  have hx : (lastPiece a w).1.emb (ix3 (⟨0, by decide⟩ : Fin 1) r (⟨q.val, hq⟩ : Fin 1152)) =
      ix3 (⟨0, by decide⟩ : Fin 2) r q := by
    funext k
    apply Fin.ext
    fin_cases k
    · rfl
    · show 0 + 1 * r.val = r.val
      omega
    · show 0 + 1 * q.val = q.val
      omega
  rw [← hx]
  exact View.canon_cons_emb _ _ _ _

/-- The final product's operand read whole: it holds the newest chunk's columns. -/
def wideLoad (v : View sig κ sp S576x4096 .bf16) (L : List (View.Piece (Elt F) S576x4096 .bf16)) :
    Vec F S576x4096 .bf16 :=
  v.readCov L (Rect.unit ![0, 0] S576x4096.size inb_S576x4096_S576x4096_0_0).toLoadRect

/-- The final product's operand read up to the last chunk's width. -/
def narrowLoad (v : View sig κ sp S576x4096 .bf16) (L : List (View.Piece (Elt F) S576x4096 .bf16)) :
    Vec F S576x2048 .bf16 :=
  v.readCov L (Rect.unit (s := S576x4096) ![0, 0] S576x2048.size inb_S576x4096_S576x2048_0_0).toLoadRect

theorem wideLoad_apply (v : View sig κ sp S576x4096 .bf16) (L : List (View.Piece (Elt F) S576x4096 .bf16))
    (r : Fin 576) (q : Fin 4096) : wideLoad v L (ix2 r q) = View.canon L (ix2 r q) := by
  rw [wideLoad, View.readCov_eq_canon']
  refine congrArg (View.canon L) ?_
  funext k
  apply Fin.ext
  fin_cases k
  · show 0 + 1 * r.val = r.val
    omega
  · show 0 + 1 * q.val = q.val
    omega

theorem narrowLoad_apply (v : View sig κ sp S576x4096 .bf16) (L : List (View.Piece (Elt F) S576x4096 .bf16))
    (r : Fin 576) (q : Fin 2048) : narrowLoad v L (ix2 r q) = View.canon L (ix2 r ⟨q.val, by omega⟩) := by
  rw [narrowLoad, View.readCov_eq_canon']
  refine congrArg (View.canon L) ?_
  funext k
  apply Fin.ext
  fin_cases k
  · show 0 + 1 * r.val = r.val
    omega
  · show 0 + 1 * q.val = q.val
    omega

/-- The five chunks' stores into a grid point's block of the result. -/
def outs (y₀ y₁ y₂ y₃ : Vec F ⟨2, ![64, 16 * 256]⟩ .f32) (y₄ : Vec F ⟨2, ![64, 16 * 128]⟩ .f32) :
    List (View.Piece (Elt F) S16x64x1024 .f32) :=
  outPieces 128 64 960 (by decide) (by decide) (by decide) y₄
    (outPieces 256 240 720 (by decide) (by decide) (by decide) y₃
      (outPieces 256 240 480 (by decide) (by decide) (by decide) y₂
        (outPieces 256 240 240 (by decide) (by decide) (by decide) y₁
          (outPieces 256 240 0 (by decide) (by decide) (by decide) y₀ [] 16) 16) 16) 16) 16

/-- A grid point's stores into its block of the result, the last made first: each chunk's product is taken after its
    own copies, which read the double buffer as it stands after the next chunk's first product. -/
def stores (v7 : View sig κ sp S2x1024x2304 .bf16) (v8 : View sig κ sp S576x4096 .bf16)
    (a₀ a₁ a₂ a₃ : Vec F S1024x512 .bf16) (w₀ w₁ w₂ w₃ : Vec F S1x512x2304 .bf16)
    (w₄ : Vec F S1x512x1152 .bf16) (wts : Vec F S64x576 .bf16) :
    List (View.Piece (Elt F) S16x64x1024 .f32) :=
  outs
    (k0_pay519 wts (wideLoad v8 (cols₁ v7 a₀ a₁ w₀ w₁)))
    (k0_pay519 wts (wideLoad v8 (cols₂ v7 a₀ a₁ a₂ w₀ w₁ w₂)))
    (k0_pay519 wts (wideLoad v8 (cols₃ v7 a₀ a₁ a₂ a₃ w₀ w₁ w₂ w₃)))
    (k0_pay519 wts (wideLoad v8 (cols₄ v7 a₀ a₁ a₂ a₃ w₀ w₁ w₂ w₃ w₄)))
    (k0_pay871 wts (narrowLoad v8 (cols₅ v7 a₀ a₁ a₂ a₃ w₀ w₁ w₂ w₃ w₄)))

end Cert.Sampled

end
end
-- ==== Proof.Point.lean ====
/-
  A grid point's block of the result at an index, over extended reals: the sum over the 576 rows of the final
  product's operand, each of them a first product's entry.
-/
module

public import proofs.«01_k».proof.Proof.Body
public import Idealize.ShloMosaic.Lib.Pointwise

@[expose] public section

set_option maxRecDepth 65536

noncomputable section

namespace Cert.Sampled

open Idealize.ShloMosaic Idealize.ShloMosaic.TcCoe Cert.KernelIdeal Cert.KernelIdeal.Gen

variable {κ : Kind} {sp : Space}

/-- An entry of a first product: row `r` of the images' slice times column `q` of the selection. -/
def firstAt {n : ℕ} (a : FVec Ideal S1024x512 .bf16) (w : FVec Ideal ⟨3, ![1, 512, n + 1]⟩ .bf16) (r q : ℕ) : EReal :=
  ∑ u : Fin 512, a (ix2 (Fin.ofNat 1024 r) u) * w (ix3 (⟨0, by decide⟩ : Fin 1) u (Fin.ofNat (n + 1) q))

theorem first_wide (a : FVec Ideal S1024x512 .bf16) (w : FVec Ideal S1x512x2304 .bf16) (r : Fin 1024) (q : Fin 2304) :
    k0_pay11 (F := Ideal) a w (ix3 (⟨0, by decide⟩ : Fin 1) r q) = firstAt (n := 2303) a w r.val q.val := by
  have hr : Fin.ofNat 1024 r.val = r := Fin.ext (Nat.mod_eq_of_lt r.isLt)
  have hq : Fin.ofNat (2303 + 1) q.val = q := Fin.ext (Nat.mod_eq_of_lt q.isLt)
  rw [firstAt, hr, hq]
  pointwise [k0_pay11]

theorem first_narrow (a : FVec Ideal S1024x512 .bf16) (w : FVec Ideal S1x512x1152 .bf16) (r : Fin 1024) (q : Fin 1152) :
    k0_pay538 (F := Ideal) a w (ix3 (⟨0, by decide⟩ : Fin 1) r q) = firstAt (n := 1151) a w r.val q.val := by
  have hr : Fin.ofNat 1024 r.val = r := Fin.ext (Nat.mod_eq_of_lt r.isLt)
  have hq : Fin.ofNat (1151 + 1) q.val = q := Fin.ext (Nat.mod_eq_of_lt q.isLt)
  rw [firstAt, hr, hq]
  pointwise [k0_pay538]

theorem last_wide (w : FVec Ideal S64x576 .bf16) (x : FVec Ideal S576x4096 .bf16) (o : Fin 64) (q : Fin 4096) :
    k0_pay519 (F := Ideal) w x (ix2 o q) = ∑ r : Fin 576, w (ix2 o r) * x (ix2 r q) := by
  pointwise [k0_pay519]

theorem last_narrow (w : FVec Ideal S64x576 .bf16) (x : FVec Ideal S576x2048 .bf16) (o : Fin 64) (q : Fin 2048) :
    k0_pay871 (F := Ideal) w x (ix2 o q) = ∑ r : Fin 576, w (ix2 o r) * x (ix2 r q) := by
  pointwise [k0_pay871]

/-- A chunk's part of the result: image `b`, output channel `o`, location `q` of the chunk. -/
def chunkAt {n : ℕ} (pad : ℕ) (a : FVec Ideal S1024x512 .bf16) (w : FVec Ideal ⟨3, ![1, 512, n + 1]⟩ .bf16)
    (wts : FVec Ideal S64x576 .bf16) (b o q : ℕ) : EReal :=
  ∑ r : Fin 576, wts (ix2 (Fin.ofNat 64 o) r) * firstAt a w (b * 64 + r.val % 64) (r.val / 64 * pad + q)

theorem laid_image (pad : ℕ) (X : ℕ → ℕ → EReal) (b q r : ℕ) (hq : q < pad) :
    laid (F := Ideal) pad X r (b * pad + q) = X (b * 64 + r % 64) (r / 64 * pad + q) := by
  have hp : 0 < pad := by omega
  rw [laid, Nat.mul_comm b pad, Nat.mul_add_div hp, Nat.div_eq_of_lt hq, Nat.add_zero, Nat.mul_add_mod,
    Nat.mod_eq_of_lt hq]

/-- The final product over a wide chunk's operand, at an image's column. -/
theorem wide_chunk (v7 : View sig κ sp S2x1024x2304 .bf16) (v8 : View sig κ sp S576x4096 .bf16) (slot : ℕ)
    (hs : slot < 2) (L : List (View.Piece (Elt Ideal) S2x1024x2304 .bf16))
    (L₀ : List (View.Piece (Elt Ideal) S576x4096 .bf16)) (a : FVec Ideal S1024x512 .bf16)
    (w : FVec Ideal S1x512x2304 .bf16) (wts : FVec Ideal S64x576 .bf16)
    (hX : ∀ (r : Fin 1024) (q : Fin 2304), View.canon L (ix3 (⟨slot, hs⟩ : Fin 2) r q) =
      k0_pay11 (F := Ideal) a w (ix3 (⟨0, by decide⟩ : Fin 1) r q))
    (b : Fin 16) (o : Fin 64) (q : ℕ) (hq : q < 256) :
    k0_pay519 (F := Ideal) wts (wideLoad v8 (copies 256 (by decide) slot hs v7 L L₀ 144)) (ix2 o ⟨b.val * 256 + q, by omega⟩) =
      chunkAt (n := 2303) 256 a w wts b.val o.val q := by
  have ho : Fin.ofNat 64 o.val = o := Fin.ext (Nat.mod_eq_of_lt o.isLt)
  rw [last_wide, chunkAt, ho]
  refine Finset.sum_congr rfl fun r _ => ?_
  rw [wideLoad_apply, canon_copies 256 (by decide) slot hs v7 L L₀ (firstAt (n := 2303) a w)
    (fun r q _ => (hX r q).trans (first_wide a w r q)) r _ (by show b.val * 256 + q < 16 * 256; omega)]
  exact congrArg _ (laid_image 256 _ b.val q r.val hq)

/-- The final product over the last chunk's operand, at an image's column. -/
theorem narrow_chunk (v7 : View sig κ sp S2x1024x2304 .bf16) (v8 : View sig κ sp S576x4096 .bf16)
    (L : List (View.Piece (Elt Ideal) S2x1024x2304 .bf16))
    (L₀ : List (View.Piece (Elt Ideal) S576x4096 .bf16)) (a : FVec Ideal S1024x512 .bf16)
    (w : FVec Ideal S1x512x1152 .bf16) (wts : FVec Ideal S64x576 .bf16)
    (hX : ∀ (r : Fin 1024) (q : Fin 2304) (hq : q.val < 1152), View.canon L (ix3 (⟨0, by decide⟩ : Fin 2) r q) =
      k0_pay538 (F := Ideal) a w (ix3 (⟨0, by decide⟩ : Fin 1) r (⟨q.val, hq⟩ : Fin 1152)))
    (b : Fin 16) (o : Fin 64) (q : ℕ) (hq : q < 128) :
    k0_pay871 (F := Ideal) wts (narrowLoad v8 (copies 128 (by decide) 0 (by decide) v7 L L₀ 144)) (ix2 o ⟨b.val * 128 + q, by omega⟩) =
      chunkAt (n := 1151) 128 a w wts b.val o.val q := by
  have ho : Fin.ofNat 64 o.val = o := Fin.ext (Nat.mod_eq_of_lt o.isLt)
  rw [last_narrow, chunkAt, ho]
  refine Finset.sum_congr rfl fun r _ => ?_
  rw [narrowLoad_apply, canon_copies 128 (by decide) 0 (by decide) v7 L L₀ (firstAt (n := 1151) a w)
    (fun r q h => (hX r q h).trans (first_narrow a w r ⟨q.val, h⟩)) r _ (by show b.val * 128 + q < 16 * 128; omega)]
  exact congrArg _ (laid_image 128 _ b.val q r.val hq)

section Outs

variable (y₀ y₁ y₂ y₃ : FVec Ideal ⟨2, ![64, 16 * 256]⟩ .f32) (y₄ : FVec Ideal ⟨2, ![64, 16 * 128]⟩ .f32)
    (b : Fin 16) (o : Fin 64) (p : Fin 1024)

theorem outs_0 (h : p.val < 240) : View.canon (outs (F := Ideal) y₀ y₁ y₂ y₃ y₄) (ix3 b o p) =
    y₀ (ix2 o (⟨b.val * 256 + (p.val - 0), by omega⟩ : Fin (16 * 256))) := by
  unfold outs
  refine (outPieces_miss 128 64 960 _ _ _ _ _ b o p (by omega) 16).trans ?_
  refine (outPieces_miss 256 240 720 _ _ _ _ _ b o p (by omega) 16).trans ?_
  refine (outPieces_miss 256 240 480 _ _ _ _ _ b o p (by omega) 16).trans ?_
  refine (outPieces_miss 256 240 240 _ _ _ _ _ b o p (by omega) 16).trans ?_
  exact outPieces_hit 256 240 0 _ _ _ _ _ b o p (by omega) (by omega) 16 (by omega) (by omega)

theorem outs_1 (h₁ : 240 ≤ p.val) (h₂ : p.val < 480) : View.canon (outs (F := Ideal) y₀ y₁ y₂ y₃ y₄) (ix3 b o p) =
    y₁ (ix2 o (⟨b.val * 256 + (p.val - 240), by omega⟩ : Fin (16 * 256))) := by
  unfold outs
  refine (outPieces_miss 128 64 960 _ _ _ _ _ b o p (by omega) 16).trans ?_
  refine (outPieces_miss 256 240 720 _ _ _ _ _ b o p (by omega) 16).trans ?_
  refine (outPieces_miss 256 240 480 _ _ _ _ _ b o p (by omega) 16).trans ?_
  exact outPieces_hit 256 240 240 _ _ _ _ _ b o p (by omega) (by omega) 16 (by omega) (by omega)

theorem outs_2 (h₁ : 480 ≤ p.val) (h₂ : p.val < 720) : View.canon (outs (F := Ideal) y₀ y₁ y₂ y₃ y₄) (ix3 b o p) =
    y₂ (ix2 o (⟨b.val * 256 + (p.val - 480), by omega⟩ : Fin (16 * 256))) := by
  unfold outs
  refine (outPieces_miss 128 64 960 _ _ _ _ _ b o p (by omega) 16).trans ?_
  refine (outPieces_miss 256 240 720 _ _ _ _ _ b o p (by omega) 16).trans ?_
  exact outPieces_hit 256 240 480 _ _ _ _ _ b o p (by omega) (by omega) 16 (by omega) (by omega)

theorem outs_3 (h₁ : 720 ≤ p.val) (h₂ : p.val < 960) : View.canon (outs (F := Ideal) y₀ y₁ y₂ y₃ y₄) (ix3 b o p) =
    y₃ (ix2 o (⟨b.val * 256 + (p.val - 720), by omega⟩ : Fin (16 * 256))) := by
  unfold outs
  refine (outPieces_miss 128 64 960 _ _ _ _ _ b o p (by omega) 16).trans ?_
  exact outPieces_hit 256 240 720 _ _ _ _ _ b o p (by omega) (by omega) 16 (by omega) (by omega)

theorem outs_4 (h : 960 ≤ p.val) : View.canon (outs (F := Ideal) y₀ y₁ y₂ y₃ y₄) (ix3 b o p) =
    y₄ (ix2 o (⟨b.val * 128 + (p.val - 960), by omega⟩ : Fin (16 * 128))) := by
  unfold outs
  exact outPieces_hit 128 64 960 _ _ _ _ _ b o p (by omega) (by omega) 16 (by omega) (by omega)

end Outs

section Stores

variable (v7 : View sig κ sp S2x1024x2304 .bf16) (v8 : View sig κ sp S576x4096 .bf16)
    (a₀ a₁ a₂ a₃ : FVec Ideal S1024x512 .bf16) (w₀ w₁ w₂ w₃ : FVec Ideal S1x512x2304 .bf16)
    (w₄ : FVec Ideal S1x512x1152 .bf16) (wts : FVec Ideal S64x576 .bf16) (b : Fin 16) (o : Fin 64) (p : Fin 1024)

theorem stores_0 (h : p.val < 240) :
    View.canon (stores (F := Ideal) v7 v8 a₀ a₁ a₂ a₃ w₀ w₁ w₂ w₃ w₄ wts) (ix3 b o p) =
      chunkAt (n := 2303) 256 a₀ w₀ wts b.val o.val (p.val - 0) := by
  unfold stores
  refine (outs_0 _ _ _ _ _ b o p h).trans ?_
  unfold cols₁
  refine wide_chunk v7 v8 0 (by decide) _ _ a₀ w₀ wts (fun r q => ?_) b o _ (by omega)
  rw [half2, halfPiece_miss _ _ _ _ _ _ (by decide)]
  exact halfPiece_hit (F := Ideal) 0 (by decide) a₀ w₀ _ r q

theorem stores_1 (h₁ : 240 ≤ p.val) (h₂ : p.val < 480) :
    View.canon (stores (F := Ideal) v7 v8 a₀ a₁ a₂ a₃ w₀ w₁ w₂ w₃ w₄ wts) (ix3 b o p) =
      chunkAt (n := 2303) 256 a₁ w₁ wts b.val o.val (p.val - 240) := by
  unfold stores
  refine (outs_1 _ _ _ _ _ b o p h₁ h₂).trans ?_
  unfold cols₂
  refine wide_chunk v7 v8 1 (by decide) _ _ a₁ w₁ wts (fun r q => ?_) b o _ (by omega)
  rw [half3, halfPiece_miss _ _ _ _ _ _ (by decide), half2]
  exact halfPiece_hit (F := Ideal) 1 (by decide) a₁ w₁ _ r q

theorem stores_2 (h₁ : 480 ≤ p.val) (h₂ : p.val < 720) :
    View.canon (stores (F := Ideal) v7 v8 a₀ a₁ a₂ a₃ w₀ w₁ w₂ w₃ w₄ wts) (ix3 b o p) =
      chunkAt (n := 2303) 256 a₂ w₂ wts b.val o.val (p.val - 480) := by
  unfold stores
  refine (outs_2 _ _ _ _ _ b o p h₁ h₂).trans ?_
  unfold cols₃
  refine wide_chunk v7 v8 0 (by decide) _ _ a₂ w₂ wts (fun r q => ?_) b o _ (by omega)
  rw [half4, halfPiece_miss _ _ _ _ _ _ (by decide), half3]
  exact halfPiece_hit (F := Ideal) 0 (by decide) a₂ w₂ _ r q

theorem stores_3 (h₁ : 720 ≤ p.val) (h₂ : p.val < 960) :
    View.canon (stores (F := Ideal) v7 v8 a₀ a₁ a₂ a₃ w₀ w₁ w₂ w₃ w₄ wts) (ix3 b o p) =
      chunkAt (n := 2303) 256 a₃ w₃ wts b.val o.val (p.val - 720) := by
  unfold stores
  refine (outs_3 _ _ _ _ _ b o p h₁ h₂).trans ?_
  unfold cols₄
  refine wide_chunk v7 v8 1 (by decide) _ _ a₃ w₃ wts (fun r q => ?_) b o _ (by omega)
  rw [half5, lastPiece_miss _ _ _ _ (by decide), half4]
  exact halfPiece_hit (F := Ideal) 1 (by decide) a₃ w₃ _ r q

theorem stores_4 (h₁ : 960 ≤ p.val) :
    View.canon (stores (F := Ideal) v7 v8 a₀ a₁ a₂ a₃ w₀ w₁ w₂ w₃ w₄ wts) (ix3 b o p) =
      chunkAt (n := 1151) 128 a₃ w₄ wts b.val o.val (p.val - 960) := by
  unfold stores
  refine (outs_4 _ _ _ _ _ b o p h₁).trans ?_
  unfold cols₅
  refine narrow_chunk v7 v8 _ _ a₃ w₄ wts (fun r q hq => ?_) b o _ (by omega)
  rw [half5]
  exact lastPiece_hit (F := Ideal) a₃ w₄ _ r q hq

end Stores

end Cert.Sampled

end
end
-- ==== Proof.Picked.lean ====
/-
  A selection of pixels by a product: a row of an image's window times a column of the selection is the pixel the
  column's index names, when that pixel lies in the window. So a chunk's part of a grid point's block is a sum of
  weights times the sampled pixels.
-/
module

public import proofs.«01_k».proof.Proof.Selection
public import proofs.«01_k».proof.Proof.Point

@[expose] public section

set_option maxRecDepth 65536

noncomputable section

namespace Cert.Sampled

open Idealize.ShloMosaic Idealize.ShloMosaic.TcCoe Cert.KernelIdeal Cert.KernelIdeal.Gen

/-- The sum over a window of values times picks of one word is the value that word names. -/
theorem sum_pick (f : Fin 512 → EReal) (q w : BitVec 32) (hq : q.toNat ≤ 512) (h₁ : q.toNat ≤ w.toNat)
    (h₂ : w.toNat < q.toNat + 512) :
    ∑ u : Fin 512, f u * pick (BitVec.ofNat 32 u.val + q) w = f ⟨w.toNat - q.toNat, by omega⟩ := by
  rw [Finset.sum_eq_single (⟨w.toNat - q.toNat, by omega⟩ : Fin 512)]
  · rw [pick, if_pos, mul_one]
    apply BitVec.eq_of_toNat_eq
    rw [BitVec.toNat_add, BitVec.toNat_ofNat]
    show ((w.toNat - q.toNat) % 2 ^ 32 + q.toNat) % 2 ^ 32 = w.toNat
    have := w.isLt
    omega
  · intro u _ hu
    rw [pick, if_neg, mul_zero]
    intro he
    apply hu
    apply Fin.ext
    have he' := congrArg BitVec.toNat he
    rw [BitVec.toNat_add, BitVec.toNat_ofNat] at he'
    have := u.isLt
    show u.val = w.toNat - q.toNat
    omega
  · intro h
    exact absurd (Finset.mem_univ _) h

/-- The part of a grid point's block at one location whose nine indices are `I`: weights times sampled pixels. -/
def sampledAt (x0 : FVec Ideal S16x64x1024 .f32) (wts : FVec Ideal S64x576 .bf16) (I : Fin 9 → BitVec 32) (b : Fin 16)
    (o : Fin 64) : EReal :=
  ∑ r : Fin 576, wts (ix2 o r) *
    x0 (ix3 b (⟨r.val % 64, by omega⟩ : Fin 64) (Fin.ofNat 1024 (I ⟨r.val / 64, by omega⟩).toNat))

/-- A chunk's part of the block, read at a location of the chunk whose nine indices lie in the chunk's window. -/
theorem chunk_sampled {n : ℕ} (pad : ℕ) (j : Fin 5) (hn : n + 1 ≤ 2304) (x0 : FVec Ideal S16x64x1024 .f32)
    (x2 : IVec S5x1x2304 32) (a : FVec Ideal S1024x512 .bf16) (w : FVec Ideal ⟨3, ![1, 512, n + 1]⟩ .bf16)
    (wts : FVec Ideal S64x576 .bf16) (I : Fin 9 → BitVec 32) (b : Fin 16) (o : Fin 64) (q : ℕ)
    (hq : 8 * pad + q < n + 1) (hj : (firstPixel j).toNat ≤ 512)
    (ha : ∀ (r : Fin 1024) (u : Fin 512), a (ix2 r u) =
      x0 (ix3 (⟨r.val / 64, by omega⟩ : Fin 16) (⟨r.val % 64, by omega⟩ : Fin 64)
        (⟨(firstPixel j).toNat + u.val, by omega⟩ : Fin 1024)))
    (hw : ∀ (u : Fin 512) (q : Fin (n + 1)), w (ix3 (⟨0, by decide⟩ : Fin 1) u q) =
      selection x2 (ix3 j u (⟨q.val, by omega⟩ : Fin 2304)))
    (hI : ∀ k : Fin 9, x2 (ix3 j (0 : Fin 1) (Fin.ofNat 2304 (k.val * pad + q))) = I k)
    (hlo : ∀ k, (firstPixel j).toNat ≤ (I k).toNat) (hhi : ∀ k, (I k).toNat < (firstPixel j).toNat + 512) :
    chunkAt pad a w wts b.val o.val q = sampledAt x0 wts I b o := by
  have ho : Fin.ofNat 64 o.val = o := Fin.ext (Nat.mod_eq_of_lt o.isLt)
  rw [chunkAt, sampledAt, ho]
  refine Finset.sum_congr rfl fun r _ => congrArg _ ?_
  have hr : r.val / 64 < 9 := by omega
  have hk : r.val / 64 * pad ≤ 8 * pad := Nat.mul_le_mul (by omega) (Nat.le_refl _)
  have hw' : ∀ u : Fin 512, w (ix3 (⟨0, by decide⟩ : Fin 1) u (Fin.ofNat (n + 1) (r.val / 64 * pad + q))) =
      pick (BitVec.ofNat 32 u.val + firstPixel j) (I ⟨r.val / 64, hr⟩) := by
    intro u
    rw [hw, ← hI ⟨r.val / 64, hr⟩]
    have e : (⟨(Fin.ofNat (n + 1) (r.val / 64 * pad + q)).val, by omega⟩ : Fin 2304) =
        Fin.ofNat 2304 (r.val / 64 * pad + q) := by
      apply Fin.ext
      show (r.val / 64 * pad + q) % (n + 1) = (r.val / 64 * pad + q) % 2304
      rw [Nat.mod_eq_of_lt (by omega), Nat.mod_eq_of_lt (by omega)]
    rw [e]
    rfl
  have hb : Fin.ofNat 1024 (b.val * 64 + r.val % 64) = (⟨b.val * 64 + r.val % 64, by omega⟩ : Fin 1024) :=
    Fin.ext (Nat.mod_eq_of_lt (by omega))
  rw [firstAt]
  simp only [hw', hb, ha]
  rw [sum_pick _ _ _ hj (hlo _) (hhi _)]
  refine congrArg x0 ?_
  have hl := hlo ⟨r.val / 64, hr⟩
  have hh := hhi ⟨r.val / 64, hr⟩
  congr 1
  · apply Fin.ext
    show (b.val * 64 + r.val % 64) / 64 = b.val
    omega
  · apply Fin.ext
    show (b.val * 64 + r.val % 64) % 64 = r.val % 64
    omega
  · apply Fin.ext
    show (firstPixel j).toNat + ((I ⟨r.val / 64, hr⟩).toNat - (firstPixel j).toNat) = (I ⟨r.val / 64, hr⟩).toNat % 1024
    omega

end Cert.Sampled

end
end
-- ==== Proof.Block.lean ====
/-
  What either case of the body leaves in a grid point's block of the result, read at an index: weights times
  sampled pixels. The case that builds the selection and the case that finds it in the buffer carried from the
  point before come to the same five reads of it.
-/
module

public import proofs.«01_k».proof.Proof.Picked
public import Idealize.ShloMosaic.Lib.WholeRead

@[expose] public section

set_option maxRecDepth 65536
set_option maxHeartbeats 2000000

noncomputable section

namespace Cert.Sampled

open Idealize.ShloMosaic Idealize.ShloMosaic.TcCoe Cert.KernelIdeal Cert.KernelIdeal.Gen

section Parts

variable {F : FTy → Type} [FloatOps F] {κ : Kind} {sp : Space}

/-- A wide chunk's table of the selection `s`, and the last chunk's. -/
def tableOf (s : Vec F S5x512x2304 .bf16) (j : Fin 5) : Vec F S1x512x2304 .bf16 := fun i =>
  s (ix3 j (i 1) (i 2))

def lastTableOf (s : Vec F S5x512x2304 .bf16) : Vec F S1x512x1152 .bf16 := fun i =>
  s (ix3 (4 : Fin 5) (i 1) (⟨(i 2).val, Nat.lt_of_lt_of_le (i 2).isLt (by decide)⟩ : Fin 2304))

/-- The place in the selection a wide chunk's table is read from. -/
theorem tableIdx (j : Fin 5) (inb : ∀ a, (![j.val, 0, 0] : Fin 3 → ℕ) a + S1x512x2304.size a ≤ S5x512x2304.size a)
    (i : S1x512x2304.Idx) :
    (Rect.unit (s := S5x512x2304) ![j.val, 0, 0] S1x512x2304.size inb).toLoadRect.idx i = ix3 j (i 1) (i 2) := by
  funext a
  apply Fin.ext
  fin_cases a
  · show j.val + 1 * (i 0).val = j.val
    have : (i 0).val < 1 := (i 0).isLt
    omega
  · show 0 + 1 * (i 1).val = (i 1).val
    omega
  · show 0 + 1 * (i 2).val = (i 2).val
    omega

theorem lastTableIdx (inb : ∀ a, (![4, 0, 0] : Fin 3 → ℕ) a + S1x512x1152.size a ≤ S5x512x2304.size a)
    (i : S1x512x1152.Idx) :
    (Rect.unit (s := S5x512x2304) ![4, 0, 0] S1x512x1152.size inb).toLoadRect.idx i =
      ix3 (4 : Fin 5) (i 1) (⟨(i 2).val, Nat.lt_of_lt_of_le (i 2).isLt (by decide)⟩ : Fin 2304) := by
  funext a
  apply Fin.ext
  fin_cases a
  · show 4 + 1 * (i 0).val = 4
    have : (i 0).val < 1 := (i 0).isLt
    omega
  · show 0 + 1 * (i 1).val = (i 1).val
    omega
  · show 0 + 1 * (i 2).val = (i 2).val
    omega

/-- The images' pixels from pixel `Q` on, as the first products read them. -/
def rowsAt (v6 : View sig κ sp S1024x1024 .bf16) (x : Vec F S16x64x1024 .f32) (Q : ℕ)
    (inb : ∀ a, (![0, Q] : Fin 2 → ℕ) a + S1024x512.size a ≤ S1024x1024.size a) : Vec F S1024x512 .bf16 :=
  v6.readCov [⟨Rect.unit ![0, 0] S1024x1024.size inb_S1024x1024_S1024x1024_0_0, k0_pay10 x⟩]
    (Rect.unit (s := S1024x1024) ![0, Q] S1024x512.size inb).toLoadRect

/-- The block of the result in either case, over the images, the weights and the selection. -/
def blockOf (v6 : View sig κ sp S1024x1024 .bf16) (v7 : View sig κ sp S2x1024x2304 .bf16)
    (v8 : View sig κ sp S576x4096 .bf16) (x0 : Vec F S16x64x1024 .f32) (wts : Vec F S64x576 .bf16)
    (s : Vec F S5x512x2304 .bf16) : Vec F S16x64x1024 .f32 :=
  View.canon (stores v7 v8 (rowsAt v6 x0 0 inb_S1024x1024_S1024x512_0_0)
    (rowsAt v6 x0 104 inb_S1024x1024_S1024x512_0_104) (rowsAt v6 x0 344 inb_S1024x1024_S1024x512_0_344)
    (rowsAt v6 x0 512 inb_S1024x1024_S1024x512_0_512) (tableOf s 0) (tableOf s 1) (tableOf s 2) (tableOf s 3)
    (lastTableOf s) wts)

/-- A whole staging buffer read whole is what it holds. -/
theorem read_images (arg1 : Memref sig .tc .vmem S16x64x1024 .f32) (harg1 : arg1.IsWhole)
    (x0 : Vec F S16x64x1024 .f32) :
    arg1.view.readAt (Elt F) (Rect.unit ![0, 0, 0] S16x64x1024.size inb_S16x64x1024_S16x64x1024_0_0_0).toLoadRect
      (harg1.unread x0) = x0 := by
  funext i
  refine (Memref.IsWhole.readAt_unread harg1 x0 _ i).trans (congrArg x0 ?_)
  funext a
  apply Fin.ext
  fin_cases a
  · show 0 + 1 * (i 0).val = (i 0).val
    omega
  · show 0 + 1 * (i 1).val = (i 1).val
    omega
  · show 0 + 1 * (i 2).val = (i 2).val
    omega

theorem read_weights (arg2 : Memref sig .tc .vmem S64x576 .bf16) (harg2 : arg2.IsWhole) (x1 : Vec F S64x576 .bf16) :
    arg2.view.readAt (Elt F) (Rect.unit ![0, 0] S64x576.size inb_S64x576_S64x576_0_0).toLoadRect
      (harg2.unread x1) = x1 := by
  funext i
  refine (Memref.IsWhole.readAt_unread harg2 x1 _ i).trans (congrArg x1 ?_)
  funext a
  apply Fin.ext
  fin_cases a
  · show 0 + 1 * (i 0).val = (i 0).val
    omega
  · show 0 + 1 * (i 1).val = (i 1).val
    omega

/-- A table read out of a buffer held at the selection; -/
theorem table_held (arg5 : Memref sig .tc .vmem S5x512x2304 .bf16) (harg5 : arg5.IsWhole) (s : Vec F S5x512x2304 .bf16)
    (j : Fin 5) (inb : ∀ a, (![j.val, 0, 0] : Fin 3 → ℕ) a + S1x512x2304.size a ≤ S5x512x2304.size a) :
    arg5.view.readAt (Elt F) (Rect.unit (s := S5x512x2304) ![j.val, 0, 0] S1x512x2304.size inb).toLoadRect
      (harg5.unread s) = tableOf s j :=
  funext fun i => (Memref.IsWhole.readAt_unread harg5 s _ i).trans (congrArg s (tableIdx j inb i))

theorem lastTable_held (arg5 : Memref sig .tc .vmem S5x512x2304 .bf16) (harg5 : arg5.IsWhole)
    (s : Vec F S5x512x2304 .bf16)
    (inb : ∀ a, (![4, 0, 0] : Fin 3 → ℕ) a + S1x512x1152.size a ≤ S5x512x2304.size a) :
    arg5.view.readAt (Elt F) (Rect.unit (s := S5x512x2304) ![4, 0, 0] S1x512x1152.size inb).toLoadRect
      (harg5.unread s) = lastTableOf s :=
  funext fun i => (Memref.IsWhole.readAt_unread harg5 s _ i).trans (congrArg s (lastTableIdx inb i))

/-- and out of the stores that make it. -/
theorem table_made (v5 : View sig κ sp S5x512x2304 .bf16) (L : List (View.Piece (Elt F) S5x512x2304 .bf16))
    (j : Fin 5) (inb : ∀ a, (![j.val, 0, 0] : Fin 3 → ℕ) a + S1x512x2304.size a ≤ S5x512x2304.size a) :
    v5.readCov L (Rect.unit (s := S5x512x2304) ![j.val, 0, 0] S1x512x2304.size inb).toLoadRect =
      tableOf (View.canon L) j := by
  rw [View.readCov_eq_canon']
  exact funext fun i => congrArg (View.canon L) (tableIdx j inb i)

theorem lastTable_made (v5 : View sig κ sp S5x512x2304 .bf16) (L : List (View.Piece (Elt F) S5x512x2304 .bf16))
    (inb : ∀ a, (![4, 0, 0] : Fin 3 → ℕ) a + S1x512x1152.size a ≤ S5x512x2304.size a) :
    v5.readCov L (Rect.unit (s := S5x512x2304) ![4, 0, 0] S1x512x1152.size inb).toLoadRect =
      lastTableOf (View.canon L) := by
  rw [View.readCov_eq_canon']
  exact funext fun i => congrArg (View.canon L) (lastTableIdx inb i)

end Parts

section Cases

variable {F : FTy → Type} [FloatOps F] (c : Dev nD) (i : grid0.Coords)
    (arg1 : Memref sig .tc .vmem S16x64x1024 .f32) (harg1 : arg1.IsWhole)
    (arg2 : Memref sig .tc .vmem S64x576 .bf16) (harg2 : arg2.IsWhole)
    (arg3 : Memref sig .tc .vmem S5x1x2304 .i32) (harg3 : arg3.IsWhole)
    (arg4 : Memref sig .tc .vmem S16x64x1024 .f32) (harg4 : arg4.IsWhole)
    (arg5 : Memref sig .tc .vmem S5x512x2304 .bf16) (harg5 : arg5.IsWhole)
    (arg6 : Memref sig .tc .vmem S1024x1024 .bf16) (harg6 : arg6.IsWhole)
    (arg7 : Memref sig .tc .vmem S2x1024x2304 .bf16) (harg7 : arg7.IsWhole)
    (arg8 : Memref sig .tc .vmem S576x4096 .bf16) (harg8 : arg8.IsWhole)
    (x0 : Vec F S16x64x1024 .f32) (x1 : Vec F S64x576 .bf16) (x2 : Vec F S5x1x2304 .i32)
    (xs0 : Vec F S5x512x2304 .bf16)

/-- The stores of a point that finds the selection. -/
theorem stores_found (hc0 : ¬cond0_0 i) :
    (kernelRun0_B (F := F) c i arg1 harg1 arg2 harg2 arg3 harg3 arg4 harg4 arg5 harg5 arg6 harg6 arg7 harg7 arg8 harg8
      hc0 x0 x1 x2 xs0).1 =
    stores arg7.view arg8.view
      (kernelRun0_B.sl.v10 c arg1 harg1 arg6 x0) (kernelRun0_B.sl.v18 c arg1 harg1 arg6 x0)
      (kernelRun0_B.sl.v814 c arg1 harg1 arg6 x0) (kernelRun0_B.sl.v1610 c arg1 harg1 arg6 x0)
      (arg5.view.readAt (Elt F) (Rect.unit (s := S5x512x2304) ![0, 0, 0] S1x512x2304.size
        inb_S5x512x2304_S1x512x2304_0_0_0).toLoadRect (harg5.unread xs0))
      (arg5.view.readAt (Elt F) (Rect.unit (s := S5x512x2304) ![1, 0, 0] S1x512x2304.size
        inb_S5x512x2304_S1x512x2304_1_0_0).toLoadRect (harg5.unread xs0))
      (arg5.view.readAt (Elt F) (Rect.unit (s := S5x512x2304) ![2, 0, 0] S1x512x2304.size
        inb_S5x512x2304_S1x512x2304_2_0_0).toLoadRect (harg5.unread xs0))
      (arg5.view.readAt (Elt F) (Rect.unit (s := S5x512x2304) ![3, 0, 0] S1x512x2304.size
        inb_S5x512x2304_S1x512x2304_3_0_0).toLoadRect (harg5.unread xs0))
      (arg5.view.readAt (Elt F) (Rect.unit (s := S5x512x2304) ![4, 0, 0] S1x512x1152.size
        inb_S5x512x2304_S1x512x1152_4_0_0).toLoadRect (harg5.unread xs0))
      (arg2.view.readAt (Elt F) (Rect.unit ![0, 0] S64x576.size inb_S64x576_S64x576_0_0).toLoadRect
        (harg2.unread x1)) := by
  unfold kernelRun0_B
  dsimp only
  rfl

/-- The stores of a point that makes the selection. -/
theorem stores_made (hc0 : cond0_0 i) :
    (kernelRun0_A (F := F) c i arg1 harg1 arg2 harg2 arg3 harg3 arg4 harg4 arg5 harg5 arg6 harg6 arg7 harg7 arg8 harg8
      hc0 x0 x1 x2).1 =
    stores arg7.view arg8.view
      (kernelRun0_A.sl.v10 c arg1 harg1 arg6 x0) (kernelRun0_A.sl.v18 c arg1 harg1 arg6 x0)
      (kernelRun0_A.sl.v814 c arg1 harg1 arg6 x0) (kernelRun0_A.sl.v1610 c arg1 harg1 arg6 x0)
      (kernelRun0_A.sl.v11 c arg3 harg3 arg5 x2) (kernelRun0_A.sl.v19 c arg3 harg3 arg5 x2)
      (kernelRun0_A.sl.v815 c arg3 harg3 arg5 x2) (kernelRun0_A.sl.v1611 c arg3 harg3 arg5 x2)
      (kernelRun0_A.sl.v2407 c arg3 harg3 arg5 x2)
      (arg2.view.readAt (Elt F) (Rect.unit ![0, 0] S64x576.size inb_S64x576_S64x576_0_0).toLoadRect
        (harg2.unread x1)) := by
  unfold kernelRun0_A
  dsimp only
  rfl

theorem rows_found (Q : ℕ) (inb : ∀ a, (![0, Q] : Fin 2 → ℕ) a + S1024x512.size a ≤ S1024x1024.size a) :
    arg6.view.readCov (kernelRun0_B.sl.HS1_1 c arg1 harg1 x0)
      (Rect.unit (s := S1024x1024) ![0, Q] S1024x512.size inb).toLoadRect = rowsAt arg6.view x0 Q inb := by
  unfold kernelRun0_B.sl.HS1_1 rowsAt
  rw [read_images]

theorem rows_made (Q : ℕ) (inb : ∀ a, (![0, Q] : Fin 2 → ℕ) a + S1024x512.size a ≤ S1024x1024.size a) :
    arg6.view.readCov (kernelRun0_A.sl.HS1_1 c arg1 harg1 x0)
      (Rect.unit (s := S1024x1024) ![0, Q] S1024x512.size inb).toLoadRect = rowsAt arg6.view x0 Q inb := by
  unfold kernelRun0_A.sl.HS1_1 rowsAt
  rw [read_images]

theorem out_found (hc0 : ¬cond0_0 i) :
    out0_B_3 (F := F) c i arg1 harg1 arg2 harg2 arg3 harg3 arg4 harg4 arg5 harg5 arg6 harg6 arg7 harg7 arg8 harg8
      hc0 x0 x1 x2 xs0 = blockOf arg6.view arg7.view arg8.view x0 x1 xs0 := by
  unfold out0_B_3 blockOf
  have t0 : arg5.view.readAt (Elt F) (Rect.unit (s := S5x512x2304) ![0, 0, 0] S1x512x2304.size
      inb_S5x512x2304_S1x512x2304_0_0_0).toLoadRect (harg5.unread xs0) = tableOf xs0 0 := table_held arg5 harg5 xs0 0 _
  have t1 : arg5.view.readAt (Elt F) (Rect.unit (s := S5x512x2304) ![1, 0, 0] S1x512x2304.size
      inb_S5x512x2304_S1x512x2304_1_0_0).toLoadRect (harg5.unread xs0) = tableOf xs0 1 := table_held arg5 harg5 xs0 1 _
  have t2 : arg5.view.readAt (Elt F) (Rect.unit (s := S5x512x2304) ![2, 0, 0] S1x512x2304.size
      inb_S5x512x2304_S1x512x2304_2_0_0).toLoadRect (harg5.unread xs0) = tableOf xs0 2 := table_held arg5 harg5 xs0 2 _
  have t3 : arg5.view.readAt (Elt F) (Rect.unit (s := S5x512x2304) ![3, 0, 0] S1x512x2304.size
      inb_S5x512x2304_S1x512x2304_3_0_0).toLoadRect (harg5.unread xs0) = tableOf xs0 3 := table_held arg5 harg5 xs0 3 _
  refine (View.read_writes_junk_eq_canon _ _).trans (congrArg View.canon ?_)
  refine (stores_found c i arg1 harg1 arg2 harg2 arg3 harg3 arg4 harg4 arg5 harg5 arg6 harg6 arg7 harg7 arg8 harg8
    x0 x1 x2 xs0 hc0).trans ?_
  rw [read_weights, t0, t1, t2, t3, lastTable_held]
  unfold kernelRun0_B.sl.v10 kernelRun0_B.sl.v18 kernelRun0_B.sl.v814 kernelRun0_B.sl.v1610
  rw [rows_found, rows_found, rows_found, rows_found]

theorem out_made (hc0 : cond0_0 i) :
    out0_A_3 (F := F) c i arg1 harg1 arg2 harg2 arg3 harg3 arg4 harg4 arg5 harg5 arg6 harg6 arg7 harg7 arg8 harg8
      hc0 x0 x1 x2 =
      blockOf arg6.view arg7.view arg8.view x0 x1 (View.canon (kernelRun0_A.sl.HS0_5 c arg3 harg3 x2)) := by
  unfold out0_A_3 blockOf
  have t0 : arg5.view.readCov (kernelRun0_A.sl.HS0_5 c arg3 harg3 x2) (Rect.unit (s := S5x512x2304) ![0, 0, 0] S1x512x2304.size
      inb_S5x512x2304_S1x512x2304_0_0_0).toLoadRect = tableOf (View.canon (kernelRun0_A.sl.HS0_5 c arg3 harg3 x2)) 0 :=
    table_made arg5.view _ 0 _
  have t1 : arg5.view.readCov (kernelRun0_A.sl.HS0_5 c arg3 harg3 x2) (Rect.unit (s := S5x512x2304) ![1, 0, 0] S1x512x2304.size
      inb_S5x512x2304_S1x512x2304_1_0_0).toLoadRect = tableOf (View.canon (kernelRun0_A.sl.HS0_5 c arg3 harg3 x2)) 1 :=
    table_made arg5.view _ 1 _
  have t2 : arg5.view.readCov (kernelRun0_A.sl.HS0_5 c arg3 harg3 x2) (Rect.unit (s := S5x512x2304) ![2, 0, 0] S1x512x2304.size
      inb_S5x512x2304_S1x512x2304_2_0_0).toLoadRect = tableOf (View.canon (kernelRun0_A.sl.HS0_5 c arg3 harg3 x2)) 2 :=
    table_made arg5.view _ 2 _
  have t3 : arg5.view.readCov (kernelRun0_A.sl.HS0_5 c arg3 harg3 x2) (Rect.unit (s := S5x512x2304) ![3, 0, 0] S1x512x2304.size
      inb_S5x512x2304_S1x512x2304_3_0_0).toLoadRect = tableOf (View.canon (kernelRun0_A.sl.HS0_5 c arg3 harg3 x2)) 3 :=
    table_made arg5.view _ 3 _
  refine (View.read_writes_junk_eq_canon _ _).trans (congrArg View.canon ?_)
  refine (stores_made c i arg1 harg1 arg2 harg2 arg3 harg3 arg4 harg4 arg5 harg5 arg6 harg6 arg7 harg7 arg8 harg8
    x0 x1 x2 hc0).trans ?_
  unfold kernelRun0_A.sl.v10 kernelRun0_A.sl.v18 kernelRun0_A.sl.v814 kernelRun0_A.sl.v1610 kernelRun0_A.sl.v11
    kernelRun0_A.sl.v19 kernelRun0_A.sl.v815 kernelRun0_A.sl.v1611 kernelRun0_A.sl.v2407
  rw [read_weights, rows_made, rows_made, rows_made, rows_made, t0, t1, t2, t3, lastTable_made]

theorem kept_made (hc0 : cond0_0 i) :
    sout0_A_0 (F := F) c i arg1 harg1 arg2 harg2 arg3 harg3 arg4 harg4 arg5 harg5 arg6 harg6 arg7 harg7 arg8 harg8
      hc0 x0 x1 x2 = View.canon (kernelRun0_A.sl.HS0_5 c arg3 harg3 x2) := by
  unfold sout0_A_0
  rw [View.read_writes_junk_eq_canon]
  unfold kernelRun0_A
  dsimp only

end Cases

end Cert.Sampled

end
end
-- ==== Proof.BlockValue.lean ====
/-
  A grid point's block of the result at every index, over extended reals, when the table of indices holds the nine
  indices of each location and each chunk's indices lie in the chunk's window of pixels.
-/
module

public import proofs.«01_k».proof.Proof.Block

@[expose] public section

set_option maxRecDepth 65536

noncomputable section

namespace Cert.Sampled

open Idealize.ShloMosaic Idealize.ShloMosaic.TcCoe Cert.KernelIdeal Cert.KernelIdeal.Gen

variable {κ : Kind} {sp : Space}

theorem pay10_apply (x : FVec Ideal S16x64x1024 .f32) (r p : Fin 1024) :
    k0_pay10 (F := Ideal) x (ix2 r p) =
      x (ix3 (⟨r.val / 64, by omega⟩ : Fin 16) (⟨r.val % 64, by omega⟩ : Fin 64) p) := by
  unfold k0_pay10
  simp only [shapeCast_self]
  refine Idealize.ShloMosaic.shapeCast_apply _ _ _
    (ix3 (⟨r.val / 64, by omega⟩ : Fin 16) (⟨r.val % 64, by omega⟩ : Fin 64) p) ?_
  rw [Shape.rowMajor_val_three, Shape.rowMajor_val_two]
  show (r.val / 64 * 64 + r.val % 64) * 1024 + p.val = r.val * 1024 + p.val
  omega

theorem rowsAt_apply (v6 : View sig κ sp S1024x1024 .bf16) (x : FVec Ideal S16x64x1024 .f32) (Q : ℕ)
    (inb : ∀ a, (![0, Q] : Fin 2 → ℕ) a + S1024x512.size a ≤ S1024x1024.size a) (hQ : Q ≤ 512)
    (r : Fin 1024) (u : Fin 512) :
    rowsAt (F := Ideal) v6 x Q inb (ix2 r u) =
      x (ix3 (⟨r.val / 64, by omega⟩ : Fin 16) (⟨r.val % 64, by omega⟩ : Fin 64) (⟨Q + u.val, by omega⟩ : Fin 1024)) := by
  refine Eq.trans ?_ (pay10_apply x r (⟨Q + u.val, by omega⟩ : Fin 1024))
  rw [rowsAt, View.readCov_eq_canon']
  have e : (Rect.unit (s := S1024x1024) ![0, Q] S1024x512.size inb).toLoadRect.idx (ix2 r u) =
      (Rect.unit (s := S1024x1024) ![0, 0] S1024x1024.size inb_S1024x1024_S1024x1024_0_0).emb
        (ix2 r (⟨Q + u.val, by omega⟩ : Fin 1024)) := by
    funext a
    apply Fin.ext
    fin_cases a
    · rfl
    · show Q + 1 * u.val = 0 + 1 * (Q + u.val)
      omega
  show View.canon _ _ = _
  rw [e]
  exact View.canon_cons_emb _ _ _ _

/-- The chunk a location belongs to, and the width of the chunk's columns. -/
def chunkOf (p : Fin 1024) : Fin 5 := ⟨p.val / 240, by omega⟩

def padOf (p : Fin 1024) : ℕ := if p.val < 960 then 256 else 128

section Value

variable (v6 : View sig κ sp S1024x1024 .bf16) (v7 : View sig κ sp S2x1024x2304 .bf16)
    (v8 : View sig κ sp S576x4096 .bf16) (x0 : FVec Ideal S16x64x1024 .f32) (wts : FVec Ideal S64x576 .bf16)
    (x2 : IVec S5x1x2304 32) (I : Fin 1024 → Fin 9 → BitVec 32)

/-- The table holds location `p`'s nine indices in its chunk's row, one every `padOf p` columns. -/
def Holds : Prop :=
  ∀ (p : Fin 1024) (k : Fin 9),
    x2 (ix3 (chunkOf p) (0 : Fin 1) (Fin.ofNat 2304 (k.val * padOf p + p.val % 240))) = I p k

/-- A location's nine indices lie in its chunk's window of 512 pixels. -/
def InWindow : Prop :=
  ∀ (p : Fin 1024) (k : Fin 9), (firstPixel (chunkOf p)).toNat ≤ (I p k).toNat ∧
    (I p k).toNat < (firstPixel (chunkOf p)).toNat + 512

theorem block_apply (hI : Holds x2 I) (hw : InWindow I) (b : Fin 16) (o : Fin 64) (p : Fin 1024) :
    blockOf (F := Ideal) v6 v7 v8 x0 wts (selection x2) (ix3 b o p) = sampledAt x0 wts (I p) b o := by
  have hIp := hI p
  have hwp := hw p
  unfold blockOf
  have hc : ∀ j : Fin 5, j.val * 240 ≤ p.val → p.val < j.val * 240 + 240 → chunkOf p = j := fun j h₁ h₂ =>
    Fin.ext (by show p.val / 240 = j.val; omega)
  rcases Nat.lt_or_ge p.val 960 with h4 | h4
  · have hp : padOf p = 256 := if_pos h4
    rw [hp] at hIp
    rcases Nat.lt_or_ge p.val 480 with h2 | h2
    · rcases Nat.lt_or_ge p.val 240 with h1 | h1
      · rw [hc 0 (by simp) (by simpa using h1)] at hIp hwp
        rw [show p.val % 240 = p.val - 0 by omega] at hIp
        rw [stores_0 _ _ _ _ _ _ _ _ _ _ _ _ b o p h1]
        exact chunk_sampled 256 0 (by decide) x0 x2 _ _ wts (I p) b o _ (by omega) (by decide)
          (fun r u => rowsAt_apply v6 x0 0 _ (by decide) r u) (fun _ _ => rfl) hIp (fun k => (hwp k).1)
          (fun k => (hwp k).2)
      · rw [hc 1 (by simpa using h1) (by simpa using h2)] at hIp hwp
        rw [show p.val % 240 = p.val - 240 by omega] at hIp
        rw [stores_1 _ _ _ _ _ _ _ _ _ _ _ _ b o p h1 h2]
        exact chunk_sampled 256 1 (by decide) x0 x2 _ _ wts (I p) b o _ (by omega) (by decide)
          (fun r u => rowsAt_apply v6 x0 104 _ (by decide) r u) (fun _ _ => rfl) hIp (fun k => (hwp k).1)
          (fun k => (hwp k).2)
    · rcases Nat.lt_or_ge p.val 720 with h3 | h3
      · rw [hc 2 (by simpa using h2) (by simpa using h3)] at hIp hwp
        rw [show p.val % 240 = p.val - 480 by omega] at hIp
        rw [stores_2 _ _ _ _ _ _ _ _ _ _ _ _ b o p h2 h3]
        exact chunk_sampled 256 2 (by decide) x0 x2 _ _ wts (I p) b o _ (by omega) (by decide)
          (fun r u => rowsAt_apply v6 x0 344 _ (by decide) r u) (fun _ _ => rfl) hIp (fun k => (hwp k).1)
          (fun k => (hwp k).2)
      · rw [hc 3 (by simpa using h3) (by simpa using h4)] at hIp hwp
        rw [show p.val % 240 = p.val - 720 by omega] at hIp
        rw [stores_3 _ _ _ _ _ _ _ _ _ _ _ _ b o p h3 h4]
        exact chunk_sampled 256 3 (by decide) x0 x2 _ _ wts (I p) b o _ (by omega) (by decide)
          (fun r u => rowsAt_apply v6 x0 512 _ (by decide) r u) (fun _ _ => rfl) hIp (fun k => (hwp k).1)
          (fun k => (hwp k).2)
  · have hp : padOf p = 128 := if_neg (by omega)
    rw [hp] at hIp
    rw [hc 4 (by simpa using h4) (by have := p.isLt; simp; omega)] at hIp hwp
    rw [show p.val % 240 = p.val - 960 by omega] at hIp
    rw [stores_4 _ _ _ _ _ _ _ _ _ _ _ _ b o p h4]
    exact chunk_sampled 128 4 (by decide) x0 x2 _ _ wts (I p) b o _ (by omega) (by decide)
      (fun r u => rowsAt_apply v6 x0 512 _ (by decide) r u) (fun _ _ => rfl) hIp (fun k => (hwp k).1)
      (fun k => (hwp k).2)

end Value

end Cert.Sampled

end
end
-- ==== Proof.Grid.lean ====
/-
  The grid: what the four points leave behind. The first point builds the selection from the table of indices, every
  later point finds it unchanged, and each point's block of the result is the same function of its own sixteen images.
-/
module

public import proofs.«01_k».proof.Proof.BlockValue
public import proofs.«01_k».proof.Proof.Gen.KernelIdeal.Value

@[expose] public section

set_option maxRecDepth 65536

noncomputable section

namespace Cert.Sampled

open Idealize.ShloMosaic Idealize.ShloMosaic.TcCoe Cert.KernelIdeal Cert.KernelIdeal.Gen Cert.KernelIdeal.Value

variable (m : (ℓ : Loc nD τ sig) → Buf (Elt Ideal) ℓ) (c : Dev nD)

/-- The three arrays the kernel is launched on: the images by channel and pixel, the weights by row of the patch, and
    the table of indices. -/
def images : FVec Ideal S64x64x1024 .f32 := V (F := Ideal) m c main_v37
def weights : FVec Ideal S64x576 .bf16 := V (F := Ideal) m c main_v3
def indices : IVec S5x1x2304 32 := V (F := Ideal) m c main_v36

theorem at_0 : ∀ t : Fin cfg0.N, win0_0.index t (0 : Fin 3) = t.val ∧ win0_0.index t (1 : Fin 3) = 0
    ∧ win0_0.index t (2 : Fin 3) = 0 :=
  (by decide +kernel : ∀ t : Fin grid0.N, _)

theorem at_1 : ∀ t : Fin cfg0.N, win0_1.index t (0 : Fin 2) = 0 ∧ win0_1.index t (1 : Fin 2) = 0 :=
  (by decide +kernel : ∀ t : Fin grid0.N, _)

theorem at_2 : ∀ t : Fin cfg0.N, win0_2.index t (0 : Fin 3) = 0 ∧ win0_2.index t (1 : Fin 3) = 0
    ∧ win0_2.index t (2 : Fin 3) = 0 :=
  (by decide +kernel : ∀ t : Fin grid0.N, _)

theorem point_lt (t : Fin cfg0.N) : t.val < 4 := lt_of_lt_of_eq t.isLt N_0

/-- Point `t` reads images `16 t` to `16 t + 15`. -/
theorem block_images (t : Fin cfg0.N) (b : Fin 16) (ch : Fin 64) (u : Fin 1024) :
    (iblk (F := Ideal) m c 0 t : FVec Ideal S16x64x1024 .f32) (ix3 b ch u) =
      images m c (ix3 (⟨t.val * 16 + b.val, by have := point_lt t; omega⟩ : Fin 64) ch u) := by
  unfold iblk images
  rw [View.read_apply]
  show V (F := Ideal) m c main_v37 _ = V (F := Ideal) m c main_v37 _
  congr 1
  funext a
  apply Fin.ext
  match a with
  | ⟨0, _⟩ => show win0_0.index t 0 * 16 + 1 * b.val = t.val * 16 + b.val; rw [(at_0 t).1]; omega
  | ⟨1, _⟩ => show win0_0.index t 1 * 64 + 1 * ch.val = ch.val; rw [(at_0 t).2.1]; omega
  | ⟨2, _⟩ => show win0_0.index t 2 * 1024 + 1 * u.val = u.val; rw [(at_0 t).2.2]; omega

/-- Every point reads all the weights and the whole table. -/
theorem block_weights (t : Fin cfg0.N) : (iblk (F := Ideal) m c 1 t : FVec Ideal S64x576 .bf16) = weights m c := by
  funext j
  unfold iblk weights
  rw [View.read_apply]
  show V (F := Ideal) m c main_v3 _ = V (F := Ideal) m c main_v3 _
  congr 1
  funext a
  apply Fin.ext
  match a with
  | ⟨0, _⟩ => show win0_1.index t 0 * 64 + 1 * (j 0).val = (j 0).val; rw [(at_1 t).1]; omega
  | ⟨1, _⟩ => show win0_1.index t 1 * 576 + 1 * (j 1).val = (j 1).val; rw [(at_1 t).2]; omega

theorem block_indices (t : Fin cfg0.N) : (iblk (F := Ideal) m c 2 t : IVec S5x1x2304 32) = indices m c := by
  funext j
  unfold iblk indices
  rw [View.read_apply]
  show V (F := Ideal) m c main_v36 _ = V (F := Ideal) m c main_v36 _
  congr 1
  funext a
  apply Fin.ext
  match a with
  | ⟨0, _⟩ => show win0_2.index t 0 * 5 + 1 * (j 0).val = (j 0).val; rw [(at_2 t).1]; omega
  | ⟨1, _⟩ => show win0_2.index t 1 * 1 + 1 * (j 1).val = (j 1).val; rw [(at_2 t).2.1]; omega
  | ⟨2, _⟩ => show win0_2.index t 2 * 2304 + 1 * (j 2).val = (j 2).val; rw [(at_2 t).2.2]; omega

/-- The selection every point works from. -/
abbrev kept : FVec Ideal S5x512x2304 .bf16 := selection (indices m c)

theorem kept_first (t : Fin cfg0.N) (h0 : t.val % 4 = 0) : (outsAt0 (F := Ideal) m c t.val t.isLt).2 = kept m c := by
  have e := kept_made (F := Ideal) c (grid0.coords t) (ms0_0 t) (hs0_0 t) (ms0_1 t) (hs0_1 t) (ms0_2 t) (hs0_2 t) (ms0_3 t) (hs0_3 t)
      scM0_0 (Memref.isWhole_whole _) scM0_1 (Memref.isWhole_whole _) scM0_2 (Memref.isWhole_whole _) scM0_3
      (Memref.isWhole_whole _) (iblk (F := Ideal) m c 0 t)
      (iblk (F := Ideal) m c 1 t) (iblk (F := Ideal) m c 2 t) ((hcond0_0 t).mpr h0)
  have e' : (outsAt0 (F := Ideal) m c t.val t.isLt).2 = _ := congrArg Prod.snd (outsAt0_A (F := Ideal) m c t h0)
  dsimp only at e'
  rw [e', e, canon_selection, block_indices]

theorem kept_later (t : Fin cfg0.N) (h0 : ¬ t.val % 4 = 0) : (outsAt0 (F := Ideal) m c t.val t.isLt).2 =
    (outsAt0 (F := Ideal) m c (t.val - 1) (Nat.lt_of_le_of_lt (Nat.sub_le _ _) t.isLt)).2 := by
  rw [outsAt0_B (F := Ideal) m c t h0]
  rfl

theorem kept_after : ∀ (n : ℕ) (hn : n < cfg0.N), (outsAt0 (F := Ideal) m c n hn).2 = kept m c
  | 0, hn => kept_first m c ⟨0, hn⟩ rfl
  | n + 1, hn =>
    have h4 : n + 1 < 4 := lt_of_lt_of_eq hn N_0
    (kept_later m c ⟨n + 1, hn⟩ (by show ¬ (n + 1) % 4 = 0; omega)).trans (kept_after n (Nat.lt_of_succ_lt hn))

/-- Each point's block of the result. -/
theorem out_first (t : Fin cfg0.N) (h0 : t.val % 4 = 0) :
    (outsAt0 (F := Ideal) m c t.val t.isLt).1 =
      blockOf (F := Ideal) scM0_1.view scM0_2.view scM0_3.view (iblk (F := Ideal) m c 0 t) (weights m c) (kept m c) := by
  have e := out_made (F := Ideal) c (grid0.coords t) (ms0_0 t) (hs0_0 t) (ms0_1 t) (hs0_1 t) (ms0_2 t) (hs0_2 t) (ms0_3 t) (hs0_3 t)
      scM0_0 (Memref.isWhole_whole _) scM0_1 (Memref.isWhole_whole _) scM0_2 (Memref.isWhole_whole _) scM0_3
      (Memref.isWhole_whole _) (iblk (F := Ideal) m c 0 t)
      (iblk (F := Ideal) m c 1 t) (iblk (F := Ideal) m c 2 t) ((hcond0_0 t).mpr h0)
  rw [outsAt0_A (F := Ideal) m c t h0]
  refine e.trans ?_
  rw [canon_selection, block_indices, block_weights]

theorem out_later (t : Fin cfg0.N) (h0 : ¬ t.val % 4 = 0) :
    (outsAt0 (F := Ideal) m c t.val t.isLt).1 =
      blockOf (F := Ideal) scM0_1.view scM0_2.view scM0_3.view (iblk (F := Ideal) m c 0 t) (weights m c) (kept m c) := by
  have e := out_found (F := Ideal) c (grid0.coords t) (ms0_0 t) (hs0_0 t) (ms0_1 t) (hs0_1 t) (ms0_2 t) (hs0_2 t) (ms0_3 t) (hs0_3 t)
      scM0_0 (Memref.isWhole_whole _) scM0_1 (Memref.isWhole_whole _) scM0_2 (Memref.isWhole_whole _) scM0_3
      (Memref.isWhole_whole _) (iblk (F := Ideal) m c 0 t)
      (iblk (F := Ideal) m c 1 t) (iblk (F := Ideal) m c 2 t) (kept m c) (fun h => h0 ((hcond0_0 t).mp h))
  rw [outsAt0_B (F := Ideal) m c t h0, kept_after]
  refine e.trans ?_
  rw [block_weights]

theorem out_after (t : Fin cfg0.N) :
    (outsAt0 (F := Ideal) m c t.val t.isLt).1 =
      blockOf (F := Ideal) scM0_1.view scM0_2.view scM0_3.view (iblk (F := Ideal) m c 0 t) (weights m c) (kept m c) :=
  if h0 : t.val % 4 = 0 then out_first m c t h0 else out_later m c t h0

/-- A point's sum over the patch, read off the whole array of images. -/
theorem sampled_images (t : Fin cfg0.N) (J : Fin 9 → BitVec 32) (b : Fin 16) (o b' : Fin 64)
    (hb : t.val * 16 + b.val = b'.val) :
    sampledAt (iblk (F := Ideal) m c 0 t) (weights m c) J b o =
      ∑ r : Fin 576, weights m c (ix2 o r) *
        images m c (ix3 b' (⟨r.val % 64, by omega⟩ : Fin 64) (Fin.ofNat 1024 (J ⟨r.val / 64, by omega⟩).toNat)) := by
  unfold sampledAt
  refine Finset.sum_congr rfl fun r _ => ?_
  refine congrArg (weights m c (ix2 o r) * ·) ((block_images m c t b _ _).trans ?_)
  refine congrArg (images m c) (congrArg (fun a => ix3 a _ _) (Fin.ext hb))

/-- The result array at an index. -/
theorem result_apply (b o : Fin 64) (p : Fin 1024) (I : Fin 1024 → Fin 9 → BitVec 32)
    (hI : Holds (indices m c) I) (hw : InWindow I) :
    (G3 (F := Ideal) m c (ix3 b o p) : EReal) =
      ∑ r : Fin 576, weights m c (ix2 o r) *
        images m c (ix3 b (⟨r.val % 64, by omega⟩ : Fin 64) (Fin.ofNat 1024 (I p ⟨r.val / 64, by omega⟩).toNat)) := by
  have hr : pt3Of (ix3 b o p) = b.val / 16 := by
    show 1 * (b.val / 16 - 0) + 1 * (o.val / 64 - 0) + 1 * (p.val / 1024 - 0) = _
    omega
  have hN : b.val / 16 < cfg0.N := lt_of_lt_of_eq (by omega : b.val / 16 < 4) N_0.symm
  have hl : loc3Of (ix3 b o p) = ix3 (⟨b.val % 16, by omega⟩ : Fin 16) o p := by
    funext a
    apply Fin.ext
    match a with
    | ⟨0, _⟩ => rfl
    | ⟨1, _⟩ => show o.val % 64 = o.val; omega
    | ⟨2, _⟩ => show p.val % 1024 = p.val; omega
  unfold G3
  rw [dif_pos (by rw [hr]; exact hN)]
  rw [fold0_congr m c (pt3Of (ix3 b o p)) (by rw [Nat.zero_add, hr]; exact hN) (b.val / 16)
    (by rw [Nat.zero_add]; exact hN) hr, hl, ← outsAt0_sweep (F := Ideal) m c (b.val / 16) hN,
    out_after m c ⟨b.val / 16, hN⟩, block_apply _ _ _ _ _ _ I hI hw]
  exact sampled_images m c ⟨b.val / 16, hN⟩ (I p) ⟨b.val % 16, by omega⟩ o b
    (by show b.val / 16 * 16 + b.val % 16 = b.val; omega)

end Cert.Sampled

end
end
-- ==== Proof.RefRead.lean ====
/- The reference's result read at one index. Under the precondition a sample is the flat index of a place of the 32 x 32 image, so the
   reference's wrap of negative indices, its clamp and its fill for indices out of range all leave the sample alone; what remains is a sum over
   channels and samples. -/
module

public import proofs.«01_k».proof.Proof.Gen.ReferenceIdeal
public import Idealize.ShloMosaic.Lib.Pointwise

@[expose] public section

set_option maxRecDepth 16384

noncomputable section

namespace Cert.Sampled

open Idealize.ShloMosaic Cert.ReferenceIdeal Cert.ReferenceIdeal.Gen
open scoped BigOperators

/-- The sample `k` of location `p` (the location's row is `p / 32`, its column `p % 32`). -/
def smp (idx : IVec S32x32x9 32) (p : Fin 1024) (k : Fin 9) : BitVec 32 :=
  idx (ix3 ⟨p.val / 32, by omega⟩ ⟨p.val % 32, by omega⟩ k)

/-- The image `x` of batch member `b` and channel `c` at the flat place `u`. -/
def img (x : FVec Ideal S64x64x32x32 .f32) (b c : Fin 64) (u : ℕ) : EReal :=
  x (ix4 b c ⟨u / 32 % 32, Nat.mod_lt _ (by omega)⟩ ⟨u % 32, Nat.mod_lt _ (by omega)⟩)

/-- The weight of output channel `o`, input channel `c`, sample `k`. -/
def wgt (w : FVec Ideal S64x64x3x3 .f32) (o c : Fin 64) (k : Fin 9) : EReal :=
  w (ix4 o c ⟨k.val / 3, by omega⟩ ⟨k.val % 3, by omega⟩)

/-- The sampled convolution at batch member `b`, output channel `o`, location `p`. -/
def conv (x : FVec Ideal S64x64x32x32 .f32) (w : FVec Ideal S64x64x3x3 .f32) (idx : IVec S32x32x9 32) (b o : Fin 64) (p : Fin 1024) : EReal :=
  ∑ c : Fin 64, ∑ k : Fin 9, wgt w o c k * img x b c (smp idx p k).toNat

/-- The samples as one column, with the reference's wrap of negative ones. -/
def column (idx : IVec S32x32x9 32) : IVec S9216x1 32 :=
  broadcastInDim S9216x1 ![0] bcast_S9216_S9216x1_0 (select (cmpi .slt (shapeCast _ idx shapeCasts_S32x32x9_S9216) (broadcastInDim S9216 ![] bcast_S_S9216 (constantI S_ 32 0#32))) (addi (shapeCast _ idx shapeCasts_S32x32x9_S9216) (broadcastInDim S9216 ![] bcast_S_S9216 (constantI S_ 32 1024#32))) (shapeCast _ idx shapeCasts_S32x32x9_S9216))

/-- Which samples of a column are in range. -/
def inRange (v : IVec S9216x1 32) : IVec S9216 1 :=
  Host.reduce IntOp.andi (andi (cmpi .sge v (broadcastInDim S9216x1 ![] bcast_S_S9216x1 (constantI S_ 32 0#32))) (cmpi .sle v (broadcastInDim S9216x1 ![0, 1] bcast_S1x1_S9216x1_0_1 (broadcastInDim S1x1 ![1] bcast_S1_S1x1_1 (constantI S1 32 1023#32))))) (constantI S_ 1 1#1) reducesTo_S9216x1_S9216_d1 h_S_

/-- The samples gathered, with the reference's fill where a sample is out of range. -/
def gathered (x : FVec Ideal S64x64x32x32 .f32) (v : IVec S9216x1 32) : FVec Ideal S64x64x9216 .f32 :=
  select (broadcastInDim S64x64x9216 ![2] bcast_S9216_S64x64x9216_2 (inRange v)) (Host.gather gather_S64x64x1024_S9216x1_S64x64x9216_01_2_n_n_2_1_64641 (shapeCast _ x shapeCasts_S64x64x32x32_S64x64x1024) v) (broadcastInDim S64x64x9216 ![] bcast_S_S64x64x9216 (constant S_ .f32 0x7FC00000#32))

/-- The reference's result. -/
def refOut (x : FVec Ideal S64x64x32x32 .f32) (w : FVec Ideal S64x64x3x3 .f32) (idx : IVec S32x32x9 32) : FVec Ideal S64x64x1024 .f32 :=
  transpose S64x64x1024 [1, 0, 2] (Host.dotGeneral dot_S64x64x9_S64x64x1024x9_S64x64x1024_12_13_0_02_n_n none (shapeCast _ w shapeCasts_S64x64x3x3_S64x64x9) (shapeCast _ (gathered x (column idx)) shapeCasts_S64x64x9216_S64x64x1024x9)) transposes_S64x64x1024_S64x64x1024_1_0_2

theorem toInt_small {v : BitVec 32} (h : v.toNat < 1024) : v.toInt = v.toNat := BitVec.toInt_eq_toNat_of_lt (by omega)

/-- A sample in range is not below zero, -/
theorem slt_zero {v : BitVec 32} (h : v.toNat < 1024) : IntOp.cmpi CmpIPredicate.slt v 0#32 = 0#1 := by
  have e : (0#32).toInt = 0 := by decide
  simp only [IntOp.cmpi, BitVec.slt_eq_decide, toInt_small h, e]
  rw [decide_eq_false (by omega)]; rfl
/-- is at least zero -/
theorem sge_zero {v : BitVec 32} (h : v.toNat < 1024) : IntOp.cmpi CmpIPredicate.sge v 0#32 = 1#1 := by
  simp [IntOp.cmpi, BitVec.sle_eq_decide, toInt_small h]
/-- and at most 1023. -/
theorem sle_last {v : BitVec 32} (h : v.toNat < 1024) : IntOp.cmpi CmpIPredicate.sle v 1023#32 = 1#1 := by
  have e : (1023#32).toInt = 1023 := by decide
  simp only [IntOp.cmpi, BitVec.sle_eq_decide, toInt_small h, e]
  rw [decide_eq_true (by omega)]; rfl

/-- A sample in range stands in the column as it is. -/
theorem column_apply (idx : IVec S32x32x9 32) (h : ∀ i, (idx i).toNat < 1024) (r : Fin 9216) :
    column idx (ix2 r 0) = smp idx ⟨r.val / 9, by omega⟩ ⟨r.val % 9, by omega⟩ := by
  unfold column smp
  pointwise
  rw [slt_zero (h _)]
  simp only [Scalar.select, Nat.div_div_eq_div_mul]
  rfl

theorem inRange_apply (v : IVec S9216x1 32) (h : ∀ i, (v i).toNat < 1024) (r : Fin 9216) : inRange v (ix1 r) = 1#1 := by
  unfold inRange
  pointwise
  simp only [sge_zero (h _), sle_last (h _)]
  rfl

theorem gather_apply (x : FVec Ideal S64x64x1024 .f32) (v : IVec S9216x1 32) (b c : Fin 64) (r : Fin 9216) :
    Host.gather gather_S64x64x1024_S9216x1_S64x64x9216_01_2_n_n_2_1_64641 x v (ix3 b c r)
      = x (ix3 b c ⟨min (v (ix2 r 0)).toInt.toNat 1023, by omega⟩) := by
  unfold Host.gather
  congr 1
  funext a
  refine Fin.ext ?_
  let D := gather_S64x64x1024_S9216x1_S64x64x9216_01_2_n_n_2_1_64641
  show D.start (ix3 b c r) v a + D.batchCoord (ix3 b c r) a + D.offCoord (ix3 b c r) a = _
  rw [GatherDims.batchCoord_eq_zero _ _ _ (show a ∉ ([] : List (Fin 3)) from List.not_mem_nil)]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · unfold GatherDims.start
    rw [dif_neg (show (0 : Fin S64x64x1024.rank) ∉ D.startIndexMap from show (0 : Fin 3) ∉ ([2] : List (Fin 3)) by decide)]
    unfold GatherDims.offCoord
    rw [dif_pos (show (0 : Fin S64x64x1024.rank) ∈ D.sKept from show (0 : Fin 3) ∈ ([0, 1] : List (Fin 3)) by decide)]
    exact Nat.zero_add _
  · unfold GatherDims.start
    rw [dif_neg (show (1 : Fin S64x64x1024.rank) ∉ D.startIndexMap from show (1 : Fin 3) ∉ ([2] : List (Fin 3)) by decide)]
    unfold GatherDims.offCoord
    rw [dif_pos (show (1 : Fin S64x64x1024.rank) ∈ D.sKept from show (1 : Fin 3) ∈ ([0, 1] : List (Fin 3)) by decide)]
    exact Nat.zero_add _
  · rw [GatherDims.offCoord_eq_zero _ _ _ (fun h => ((GatherDims.mem_sKept _ _).mp h).1 (List.mem_singleton.mpr rfl))]
    unfold GatherDims.start
    rw [dif_pos (show (2 : Fin S64x64x1024.rank) ∈ D.startIndexMap from show (2 : Fin 3) ∈ ([2] : List (Fin 3)) by decide)]
    have hsi : D.siIdx (ix3 b c r) ⟨List.idxOf (2 : Fin 3) ([2] : List (Fin 3)), by decide⟩ = ix2 r 0 := by
      funext b; refine Fin.ext ?_
      match b with
      | ⟨0, _⟩ => rfl
      | ⟨1, _⟩ => rfl
    exact congrArg (fun i => min (v i).toInt.toNat 1023) hsi

/-- What is gathered at a sample in range is the image at that sample. -/
theorem gathered_apply (x : FVec Ideal S64x64x32x32 .f32) (idx : IVec S32x32x9 32) (h : ∀ i, (idx i).toNat < 1024)
    (b c : Fin 64) (r : Fin 9216) :
    gathered x (column idx) (ix3 b c r) = img x b c (smp idx ⟨r.val / 9, by omega⟩ ⟨r.val % 9, by omega⟩).toNat := by
  have hc : ∀ i, (column idx i).toNat < 1024 := by
    intro i
    have e : i = ix2 (i 0) 0 := by
      conv_lhs => rw [eq_ix2 i]
      exact congrArg (ix2 (i 0)) (Subsingleton.elim (α := Fin 1) (i 1) 0)
    rw [e]
    exact (congrArg BitVec.toNat (column_apply idx h (i 0))).trans_lt (h _)
  unfold gathered
  pointwise
  rw [inRange_apply _ hc, gather_apply]
  simp only [column_apply idx h]
  have hlt : (smp idx ⟨r.val / 9, by omega⟩ ⟨r.val % 9, by omega⟩).toNat < 1024 := h _
  have e : min (smp idx ⟨r.val / 9, by omega⟩ ⟨r.val % 9, by omega⟩).toInt.toNat 1023
      = (smp idx ⟨r.val / 9, by omega⟩ ⟨r.val % 9, by omega⟩).toNat := by
    rw [toInt_small hlt, Int.toNat_natCast]; omega
  simp only [e]
  unfold img
  pointwise
  have e2 : (smp idx ⟨r.val / 9, by omega⟩ ⟨r.val % 9, by omega⟩).toNat / 32 % 32
      = (smp idx ⟨r.val / 9, by omega⟩ ⟨r.val % 9, by omega⟩).toNat / 32 := by omega
  simp only [e2]

/-- THE REFERENCE AT AN INDEX. -/
theorem refOut_apply (x : FVec Ideal S64x64x32x32 .f32) (w : FVec Ideal S64x64x3x3 .f32) (idx : IVec S32x32x9 32)
    (h : ∀ i, (idx i).toNat < 1024) (b o : Fin 64) (p : Fin 1024) : refOut x w idx (ix3 b o p) = conv x w idx b o p := by
  unfold refOut conv wgt
  pointwise
  refine Finset.sum_congr rfl fun c _ => Finset.sum_congr rfl fun k _ => ?_
  rw [gathered_apply x idx h]
  have e1 : (p.val * 9 + k.val) / 9 = p.val := by omega
  have e2 : (p.val * 9 + k.val) % 9 = k.val := by omega
  simp only [e1, e2]

end Cert.Sampled

end
-- ==== Proof.Prefix.lean ====
/-
  What the kernel is launched on, at every index, in terms of the three arguments: the images with their pixels counted
  in one line, the weights with tap and channel counted together, and the table of indices.
-/
module

public import proofs.«01_k».proof.Proof.Grid
public import proofs.«01_k».proof.Proof.RefRead
public import Idealize.ShloMosaic.Lib.Pointwise
public import Idealize.ShloMosaic.Lib.StableHlo.RunRead

@[expose] public section

set_option maxRecDepth 65536

noncomputable section

namespace Cert.Sampled

open Idealize.ShloMosaic Idealize.ShloMosaic.TcCoe Cert.KernelIdeal Cert.KernelIdeal.Gen Cert.KernelIdeal.Value

variable (m : (ℓ : Loc nD τ sig) → Buf (Elt Ideal) ℓ) (c : Dev nD)

/-- Five rows laid one below the other. -/
def stack (a₀ a₁ a₂ a₃ a₄ : IVec S1x2304 32) : IVec S5x1x2304 32 :=
  shapeCast S5x1x2304 (concatenate S5x2304 0 [⟨S1x2304, a₀⟩, ⟨S1x2304, a₁⟩, ⟨S1x2304, a₂⟩, ⟨S1x2304, a₃⟩, ⟨S1x2304, a₄⟩]
    concatenates_S1x2304_S1x2304_S1x2304_S1x2304_S1x2304_S5x2304_d0) shapeCasts_S5x2304_S5x1x2304

theorem stack_congr {a₀ a₁ a₂ a₃ a₄ b₀ b₁ b₂ b₃ b₄ : IVec S1x2304 32} (h₀ : a₀ = b₀) (h₁ : a₁ = b₁) (h₂ : a₂ = b₂)
    (h₃ : a₃ = b₃) (h₄ : a₄ = b₄) : stack a₀ a₁ a₂ a₃ a₄ = stack b₀ b₁ b₂ b₃ b₄ := by
  rw [h₀, h₁, h₂, h₃, h₄]

/-- The table's row of 240 locations from `P` on: each tap's 240 words and 16 fillers, one tap after another. -/
def wideRow (v : IVec S1024x9 32) (P : ℕ) (h : S1024x9.Slices ![P, 0] S240x9) : IVec S1x2304 32 :=
  broadcastInDim S1x2304 ![1] bcast_S2304_S1x2304_1
    (pad S2304 ![0] ![0] ![0]
      (shapeCast S2304
        (pad S9x256 ![0, 0] ![0, 16] ![0, 0]
          (transpose S9x240 [1, 0] (extractStridedSlice S240x9 ![P, 0] v h) transposes_S240x9_S9x240_1_0)
          (constantI S_ 32 4294967295#32) pads_S9x240_S9x256_000_0160 h_S_)
        shapeCasts_S9x256_S2304)
      (constantI S_ 32 4294967295#32) pads_S2304_S2304_000 h_S_)

/-- The table's last row: the last 64 locations, each tap's 64 words and 64 fillers, and fillers to the end. -/
def lastRow (v : IVec S1024x9 32) : IVec S1x2304 32 :=
  broadcastInDim S1x2304 ![1] bcast_S2304_S1x2304_1
    (pad S2304 ![0] ![1152] ![0]
      (shapeCast S1152
        (pad S9x128 ![0, 0] ![0, 64] ![0, 0]
          (transpose S9x64 [1, 0] (extractStridedSlice S64x9 ![960, 0] v slices_S1024x9_S64x9_960_0) transposes_S64x9_S9x64_1_0)
          (constantI S_ 32 4294967295#32) pads_S9x64_S9x128_000_0640 h_S_)
        shapeCasts_S9x128_S1152)
      (constantI S_ 32 4294967295#32) pads_S1152_S2304_011520 h_S_)

/-- The sample indices by location and tap. -/
def words (idx : IVec S32x32x9 32) : IVec S1024x9 32 := shapeCast S1024x9 idx shapeCasts_S32x32x9_S1024x9

/-- The table the kernel is launched on, as its five rows. -/
theorem indices_eq : indices m c = stack (wideRow (words (m ((c : Thread nD τ).loc main_arg2))) 0 slices_S1024x9_S240x9_0_0)
    (wideRow (words (m ((c : Thread nD τ).loc main_arg2))) 240 slices_S1024x9_S240x9_240_0)
    (wideRow (words (m ((c : Thread nD τ).loc main_arg2))) 480 slices_S1024x9_S240x9_480_0)
    (wideRow (words (m ((c : Thread nD τ).loc main_arg2))) 720 slices_S1024x9_S240x9_720_0)
    (lastRow (words (m ((c : Thread nD τ).loc main_arg2)))) := by
  unfold indices
  dsimp only [V]
  simp only [List.flatten_cons, List.flatten_nil, List.append_nil, List.cons_append, List.nil_append]
  after_reads_simp
  refine stack_congr ?_ ?_ ?_ ?_ ?_
  · show StableHlo.upto _ _ _ (Proc.devRef .tc main_v30) = _
    after_reads_simp
    rfl
  · show StableHlo.upto _ _ _ (Proc.devRef .tc main_v31) = _
    after_reads_simp
    rfl
  · show StableHlo.upto _ _ _ (Proc.devRef .tc main_v32) = _
    after_reads_simp
    rfl
  · show StableHlo.upto _ _ _ (Proc.devRef .tc main_v33) = _
    after_reads_simp
    rfl
  · show StableHlo.upto _ _ _ (Proc.devRef .tc main_v34) = _
    after_reads_simp
    rfl

/-- The images with their pixels counted in one line. -/
def laidImages (x : FVec Ideal S64x64x32x32 .f32) : FVec Ideal S64x64x1024 .f32 :=
  shapeCast S64x64x1024 x shapeCasts_S64x64x32x32_S64x64x1024

theorem laidImages_apply (x : FVec Ideal S64x64x32x32 .f32) (b ch : Fin 64) (u : Fin 1024) :
    laidImages x (ix3 b ch u) = img x b ch u.val := by
  unfold laidImages img
  refine Idealize.ShloMosaic.shapeCast_apply _ _ _ _ ?_
  rw [Shape.rowMajor_val_four, Shape.rowMajor_val_three]
  show ((b.val * 64 + ch.val) * 32 + u.val / 32 % 32) * 32 + u.val % 32 = (b.val * 64 + ch.val) * 1024 + u.val
  omega

theorem images_apply (b ch : Fin 64) (u : Fin 1024) :
    images m c (ix3 b ch u) = img (m ((c : Thread nD τ).loc main_arg0)) b ch u.val := by
  refine Eq.trans ?_ (laidImages_apply _ b ch u)
  unfold images
  dsimp only [V]
  simp only [List.flatten_cons, List.flatten_nil, List.append_nil, List.cons_append, List.nil_append]
  after_reads_simp
  rfl

/-- The weights in the order the kernel multiplies them in. -/
def laidWeights (w : FVec Ideal S64x64x3x3 .f32) : FVec Ideal S64x576 .bf16 :=
  truncf .bf16
    (shapeCast S64x576
      (transpose S64x9x64 [0, 2, 1] (shapeCast S64x64x9 w shapeCasts_S64x64x3x3_S64x64x9) transposes_S64x64x9_S64x9x64_0_2_1)
      shapeCasts_S64x9x64_S64x576) bitsLt_bf16_f32

theorem laidWeights_apply (w : FVec Ideal S64x64x3x3 .f32) (o : Fin 64) (r : Fin 576) :
    laidWeights w (ix2 o r) = wgt w o ⟨r.val % 64, by omega⟩ ⟨r.val / 64, by omega⟩ := by
  unfold laidWeights wgt
  pointwise

theorem weights_apply (o : Fin 64) (r : Fin 576) :
    weights m c (ix2 o r) =
      wgt (m ((c : Thread nD τ).loc main_arg1)) o ⟨r.val % 64, by omega⟩ ⟨r.val / 64, by omega⟩ := by
  refine Eq.trans ?_ (laidWeights_apply _ o r)
  unfold weights
  dsimp only [V]
  simp only [List.flatten_cons, List.flatten_nil, List.append_nil, List.cons_append, List.nil_append]
  after_reads_simp
  rfl

theorem wideRow_apply (v : IVec S1024x9 32) (P : ℕ) (h : S1024x9.Slices ![P, 0] S240x9) (hP : P ≤ 784) (k : Fin 9) (q : Fin 240) :
    wideRow v P h (ix2 0 (⟨k.val * 256 + q.val, by omega⟩ : Fin 2304)) = v (ix2 (⟨P + q.val, by omega⟩ : Fin 1024) k) := by
  unfold wideRow
  pointwise
  have e : (k.val * 256 + q.val) % 256 = q.val := by omega
  simp only [e]
  rw [dif_pos (by omega), dif_pos (by omega)]

theorem lastRow_apply (v : IVec S1024x9 32) (k : Fin 9) (q : Fin 64) :
    lastRow v (ix2 0 (⟨k.val * 128 + q.val, by omega⟩ : Fin 2304)) = v (ix2 (⟨960 + q.val, by omega⟩ : Fin 1024) k) := by
  unfold lastRow
  pointwise
  have e : (k.val * 128 + q.val) % 128 = q.val := by omega
  simp only [e]
  rw [dif_pos (by omega), dif_pos (by omega)]

theorem words_apply (idx : IVec S32x32x9 32) (p : Fin 1024) (k : Fin 9) : words idx (ix2 p k) = smp idx p k := by
  unfold words smp
  pointwise

theorem stack_apply (a₀ a₁ a₂ a₃ a₄ : IVec S1x2304 32) (j : Fin 5) (n : Fin 2304) :
    stack a₀ a₁ a₂ a₃ a₄ (ix3 j 0 n) = (![a₀, a₁, a₂, a₃, a₄] j) (ix2 0 n) := by
  unfold stack
  fin_cases j
  all_goals pointwise

/-- The table holds every location's nine samples. -/
theorem indices_hold : Holds (indices m c) fun p k => smp (m ((c : Thread nD τ).loc main_arg2)) p k := by
  intro p k
  rw [indices_eq]
  dsimp only
  have wide : ∀ (j : Fin 5) (P : ℕ) (h : S1024x9.Slices ![P, 0] S240x9), P ≤ 784 → p.val / 240 = j.val → P = 240 * j.val →
      j.val < 4 → ∀ a : Fin 5 → IVec S1x2304 32, a j = wideRow (words (m ((c : Thread nD τ).loc main_arg2))) P h →
        stack (a 0) (a 1) (a 2) (a 3) (a 4) (ix3 (chunkOf p) 0 (Fin.ofNat 2304 (k.val * padOf p + p.val % 240))) =
          smp (m ((c : Thread nD τ).loc main_arg2)) p k := by
    intro j P h hP hj hPj hj4 a ha
    have hc : chunkOf p = j := Fin.ext hj
    have hp : padOf p = 256 := if_pos (by omega)
    have hn : (Fin.ofNat 2304 (k.val * padOf p + p.val % 240) : Fin 2304) = ⟨k.val * 256 + p.val % 240, by omega⟩ := by
      apply Fin.ext
      show (k.val * padOf p + p.val % 240) % 2304 = k.val * 256 + p.val % 240
      rw [hp]
      omega
    rw [hn, stack_apply, hc]
    have hv : (![a 0, a 1, a 2, a 3, a 4] : Fin 5 → IVec S1x2304 32) j = a j := by fin_cases j <;> rfl
    rw [hv, ha]
    refine (wideRow_apply _ P h hP k ⟨p.val % 240, by omega⟩).trans ?_
    rw [words_apply]
    congr 1
    apply Fin.ext
    show P + p.val % 240 = p.val
    omega
  have hb := p.isLt
  rcases (by omega : p.val / 240 = 0 ∨ p.val / 240 = 1 ∨ p.val / 240 = 2 ∨ p.val / 240 = 3 ∨ p.val / 240 = 4) with
    hd | hd | hd | hd | hd
  · exact wide 0 0 slices_S1024x9_S240x9_0_0 (by omega) hd rfl (by decide) ![_, _, _, _, _] rfl
  · exact wide 1 240 slices_S1024x9_S240x9_240_0 (by omega) hd rfl (by decide) ![_, _, _, _, _] rfl
  · exact wide 2 480 slices_S1024x9_S240x9_480_0 (by omega) hd rfl (by decide) ![_, _, _, _, _] rfl
  · exact wide 3 720 slices_S1024x9_S240x9_720_0 (by omega) hd rfl (by decide) ![_, _, _, _, _] rfl
  · have hc : chunkOf p = 4 := Fin.ext hd
    have hp : padOf p = 128 := if_neg (by omega)
    have hn : (Fin.ofNat 2304 (k.val * padOf p + p.val % 240) : Fin 2304) = ⟨k.val * 128 + (p.val - 960), by omega⟩ := by
      apply Fin.ext
      show (k.val * padOf p + p.val % 240) % 2304 = k.val * 128 + (p.val - 960)
      rw [hp]
      omega
    rw [hn, stack_apply, hc]
    refine (lastRow_apply _ k ⟨p.val - 960, by omega⟩).trans ?_
    rw [words_apply]
    congr 1
    apply Fin.ext
    show 960 + (p.val - 960) = p.val
    omega

/-- Counting tap and channel together is summing over channels and taps. -/
theorem sum_patch (f : Fin 64 → Fin 9 → EReal) :
    ∑ r : Fin 576, f ⟨r.val % 64, by omega⟩ ⟨r.val / 64, by omega⟩ = ∑ ch : Fin 64, ∑ k : Fin 9, f ch k := by
  rw [Finset.sum_comm, ← Fintype.sum_prod_type' (f := fun k ch => f ch k)]
  refine Fintype.sum_equiv (finProdFinEquiv (m := 9) (n := 64)).symm _ _ fun r => ?_
  rfl

/-- The sum over the patch, read off the arguments. -/
theorem patch_conv (b o : Fin 64) (p : Fin 1024)
    (hlt : ∀ p k, (smp (m ((c : Thread nD τ).loc main_arg2)) p k).toNat < 1024) :
    ∑ r : Fin 576, weights m c (ix2 o r) * images m c (ix3 b (⟨r.val % 64, by omega⟩ : Fin 64)
        (Fin.ofNat 1024 (smp (m ((c : Thread nD τ).loc main_arg2)) p ⟨r.val / 64, by omega⟩).toNat)) =
      conv (m ((c : Thread nD τ).loc main_arg0)) (m ((c : Thread nD τ).loc main_arg1))
        (m ((c : Thread nD τ).loc main_arg2)) b o p := by
  unfold conv
  rw [← sum_patch]
  refine Finset.sum_congr rfl fun r _ => ?_
  rw [weights_apply, images_apply]
  congr 2
  exact Nat.mod_eq_of_lt (hlt p _)

/-- THE KERNEL'S RESULT AT AN INDEX is the sampled convolution, when every chunk's samples lie in the chunk's window. -/
theorem result_conv (b o : Fin 64) (p : Fin 1024)
    (hw : InWindow fun p k => smp (m ((c : Thread nD τ).loc main_arg2)) p k)
    (hlt : ∀ p k, (smp (m ((c : Thread nD τ).loc main_arg2)) p k).toNat < 1024) :
    (G3 (F := Ideal) m c (ix3 b o p) : EReal) = conv (m ((c : Thread nD τ).loc main_arg0)) (m ((c : Thread nD τ).loc main_arg1))
      (m ((c : Thread nD τ).loc main_arg2)) b o p :=
  (result_apply m c b o p _ (indices_hold m c) hw).trans (patch_conv m c b o p hlt)

end Cert.Sampled

end
end
-- ==== Proof.Window.lean ====
/-
  What the precondition says of each sample: it is a pixel, and it lies in the window of 512 pixels that its location's
  chunk is worked from.
-/
module

public import proofs.«01_k».proof.Defs
public import proofs.«01_k».proof.Proof.BlockValue
public import proofs.«01_k».proof.Proof.RefRead
public import Idealize.ShloMosaic.Lib.Pointwise

@[expose] public section

set_option maxRecDepth 65536

noncomputable section

namespace Cert.Sampled

open Idealize.ShloMosaic Cert.KernelIdeal

/-- The precondition's one shape relation. -/
theorem windowFacts : Cert.Pre_window_indices.Facts := ⟨by decide⟩

theorem and_one {a b : BitVec 1} (h : a &&& b = 1#1) : a = 1#1 ∧ b = 1#1 := by
  revert a b; decide

theorem flag {b : Bool} (h : BitVec.ofBool b = 1#1) : b = true := by
  cases b
  · exact absurd h (by decide)
  · rfl

theorem nonneg_small {w : BitVec 32} (h : BitVec.sle 0#32 w = true) : w.toNat < 2 ^ 31 := by
  rw [BitVec.sle_eq_decide, decide_eq_true_eq, BitVec.toInt_eq_toNat_cond, BitVec.toInt_eq_toNat_cond] at h
  have := w.isLt
  simp at h
  split at h <;> omega

theorem slt_pixels {w : BitVec 32} (h₀ : w.toNat < 2 ^ 31) (h : BitVec.slt w 1024#32 = true) : w.toNat < 1024 := by
  rw [BitVec.slt_eq_decide, decide_eq_true_eq, BitVec.toInt_eq_toNat_cond, BitVec.toInt_eq_toNat_cond] at h
  simp at h
  split at h <;> omega

/-- A difference of small words is at most 4 exactly when it is so over the naturals. -/
theorem sle_four {a b : BitVec 32} (ha : a.toNat < 1024) (hb : b.toNat < 1024) (h : BitVec.sle (a - b) 4#32 = true) :
    a.toNat ≤ b.toNat + 4 := by
  rw [BitVec.sle_eq_decide, decide_eq_true_eq, BitVec.toInt_eq_toNat_cond, BitVec.toInt_eq_toNat_cond, BitVec.toNat_sub] at h
  simp at h
  split at h <;> omega

section
attribute [local instance] windowFacts

theorem pre_at (x : FVec Ideal S64x64x32x32 .f32) (w : FVec Ideal S64x64x3x3 .f32) (idx : IVec S32x32x9 32)
    (h : Cert.Pre_window_indices.fn (F := Ideal) x w idx = fun _ => 1#1) (r s : Fin 32) (k : Fin 9) :
    (idx (ix3 r s k)).toNat < 1024 ∧ (idx (ix3 r s k)).toNat / 32 ≤ r.val + 4 ∧ r.val ≤ (idx (ix3 r s k)).toNat / 32 + 4 ∧
      (idx (ix3 r s k)).toNat % 32 ≤ s.val + 4 ∧ s.val ≤ (idx (ix3 r s k)).toNat % 32 + 4 := by
  have e := congrFun h (ix3 r s k)
  revert e
  unfold Cert.Pre_window_indices.fn Cert.Pre_window_indices.fn_part1
  pointwise
  intro e
  generalize idx (ix3 r s k) = n at *
  obtain ⟨e, e₆⟩ := and_one e
  obtain ⟨e, e₅⟩ := and_one e
  obtain ⟨e, e₄⟩ := and_one e
  obtain ⟨e, e₃⟩ := and_one e
  obtain ⟨e₁, e₂⟩ := and_one e
  have hn : n.toNat < 1024 := slt_pixels (nonneg_small (flag e₁)) (flag e₂)
  have hr : (BitVec.ofNat 32 r.val).toNat = r.val := by
    rw [BitVec.toNat_ofNat]; exact Nat.mod_eq_of_lt (by omega)
  have hs : (BitVec.ofNat 32 s.val).toNat = s.val := by
    rw [BitVec.toNat_ofNat]; exact Nat.mod_eq_of_lt (by omega)
  have hd : (IntOp.shrui ArithUnit.host n 5#32).toNat = n.toNat / 32 := by
    show (n >>> (5#32).toNat).toNat = _
    rw [BitVec.toNat_ushiftRight, Nat.shiftRight_eq_div_pow]
    rfl
  have hm : (IntOp.andi n 31#32).toNat = n.toNat % 32 := by
    show (n &&& 31#32).toNat = _
    rw [BitVec.toNat_and]
    exact Nat.and_two_pow_sub_one_eq_mod n.toNat 5
  have h₃ := sle_four (by rw [hd]; omega) (by rw [hr]; omega) (flag e₃)
  have h₄ := sle_four (by rw [hr]; omega) (by rw [hd]; omega) (flag e₄)
  have h₅ := sle_four (by rw [hm]; omega) (by rw [hs]; omega) (flag e₅)
  have h₆ := sle_four (by rw [hs]; omega) (by rw [hm]; omega) (flag e₆)
  rw [hd, hr] at h₃ h₄
  rw [hm, hs] at h₅ h₆
  exact ⟨hn, h₃, h₄, h₅, h₆⟩
end

theorem samples_in (idx : IVec S32x32x9 32)
    (h : ∀ (r s : Fin 32) (k : Fin 9),
      (idx (ix3 r s k)).toNat < 1024 ∧ (idx (ix3 r s k)).toNat / 32 ≤ r.val + 4 ∧ r.val ≤ (idx (ix3 r s k)).toNat / 32 + 4 ∧
        (idx (ix3 r s k)).toNat % 32 ≤ s.val + 4 ∧ s.val ≤ (idx (ix3 r s k)).toNat % 32 + 4) :
    InWindow fun p k => smp idx p k := by
  intro p k
  dsimp only [smp]
  obtain ⟨h0, h1, h2, h3, h4⟩ := h ⟨p.val / 32, by omega⟩ ⟨p.val % 32, by omega⟩ k
  generalize (idx (ix3 (⟨p.val / 32, by omega⟩ : Fin 32) (⟨p.val % 32, by omega⟩ : Fin 32) k)).toNat = n at *
  dsimp only at h1 h2 h3 h4
  have hb := p.isLt
  have hq : (firstPixel (chunkOf p)).toNat = if p.val < 240 then 0 else if p.val < 480 then 104 else if p.val < 720 then 344 else 512 := by
    have hc : ∀ j : Fin 5, p.val / 240 = j.val → firstPixel (chunkOf p) = firstPixel j := fun j e => congrArg firstPixel (Fin.ext e)
    rcases (by omega : p.val / 240 = 0 ∨ p.val / 240 = 1 ∨ p.val / 240 = 2 ∨ p.val / 240 = 3 ∨ p.val / 240 = 4) with
      hd | hd | hd | hd | hd
    · rw [hc 0 hd, if_pos (by omega)]; rfl
    · rw [hc 1 hd, if_neg (by omega), if_pos (by omega)]; rfl
    · rw [hc 2 hd, if_neg (by omega), if_neg (by omega), if_pos (by omega)]; rfl
    · rw [hc 3 hd, if_neg (by omega), if_neg (by omega), if_neg (by omega)]; rfl
    · rw [hc 4 hd, if_neg (by omega), if_neg (by omega), if_neg (by omega)]; rfl
  rw [hq]
  split_ifs <;> constructor <;> omega

end Cert.Sampled

end
end
-- ==== Proof.lean ====
/-
  The five claims: the kernel as printed and its ideal form run and leave their arguments alone, so does the reference,
  the ideal form is the kernel's, and the ideal kernel computes what the reference computes: at every image, output
  channel and location, the sum over channels and taps of a weight times the sampled pixel.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Prefix
public import proofs.«01_k».proof.Proof.Window
public import Idealize.ShloMosaic.Adequacy
public import Idealize.ShloMosaic.Init
public import Idealize.ShloMosaic.Lib.Quiescent

@[expose] public section

set_option maxRecDepth 65536

noncomputable section

namespace Cert.Proof

open Idealize.ShloMosaic Idealize.ShloMosaic.TcCoe Idealize.SL.Sem

attribute [local instance] Cert.Sampled.windowFacts

/-- The reference runs and leaves its arguments alone; it has no semaphore to leave raised. -/
theorem reference_runs (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal))
      (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) =
          m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) =
          m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) =
          m ((c.tc : Thread Cert.ReferenceIdeal.nD Cert.ReferenceIdeal.τ).loc Cert.ReferenceIdeal.main_arg2))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- The ideal kernel's result array is the reference's, of the same arguments. -/
theorem result_eq (m : (ℓ : Loc Cert.KernelIdeal.nD Cert.KernelIdeal.τ Cert.KernelIdeal.sig) → Buf (Elt Ideal) ℓ)
    (h : Cert.Pre_KernelIdeal_window_indices m) (c : Dev Cert.KernelIdeal.nD) :
    (Cert.KernelIdeal.Value.G3 (F := Ideal) m c : FVec Ideal Cert.KernelIdeal.S64x64x1024 .f32) =
      Cert.Sampled.refOut (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) := by
  have hp := Cert.Sampled.pre_at _ _ _ (h c)
  have hlt : ∀ i, ((m ((c.tc : Thread Cert.KernelIdeal.nD Cert.KernelIdeal.τ).loc Cert.KernelIdeal.main_arg2)
      : IVec Cert.KernelIdeal.S32x32x9 32) i).toNat < 1024 := fun i => by
    rw [eq_ix3 i]
    exact (hp (i 0) (i 1) (i 2)).1
  funext i
  rw [eq_ix3 i]
  refine (Cert.Sampled.result_conv m c (i 0) (i 1) (i 2) (Cert.Sampled.samples_in _ hp) (fun p k => hlt _)).trans ?_
  exact (Cert.Sampled.refOut_apply _ _ _ hlt (i 0) (i 1) (i 2)).symm

theorem same_value : Cert.algebraic_KernelIdeal_ReferenceIdeal_pre_window_indices := by
  intro m g m' g' hpre hagree
  refine ⟨fun c => Cert.KernelIdeal.Value.G3 (F := Ideal) m c, Cert.KernelIdeal.Value.run (F := Ideal) m g, ?_⟩
  refine (θ_run Cert.ReferenceIdeal.defs _ _).mono (fun _ h c => ?_) (Cert.ReferenceIdeal.Value.run (F := Ideal) m' g')
  refine ⟨(h c).1.trans ?_, (h c).2⟩
  obtain ⟨a₀, a₁, a₂⟩ := hagree c
  rw [a₀, a₁, a₂]
  exact (result_eq m hpre c).symm

theorem claim : Cert.Claim :=
  ⟨Cert.Kernel.Gen.facts, Cert.KernelIdeal.Gen.facts, Cert.ReferenceIdeal.Gen.facts, Cert.Sampled.windowFacts,
    fun m g _ => Cert.Kernel.Gen.frame m g, fun m g _ => Cert.KernelIdeal.Gen.frame m g,
    fun m g _ => Cert.KernelIdeal.Gen.frame m g, fun m g _ => reference_runs m g, fun m g _ => reference_runs m g,
    trivial, same_value⟩

end Cert.Proof

end
